-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S8x2887x1024 : Shape := ⟨3, ![8, 2887, 1024]⟩
abbrev S_ : Shape := ⟨0, ![]⟩
abbrev S8x1024 : Shape := ⟨2, ![8, 1024]⟩
abbrev S8x1x1024 : Shape := ⟨3, ![8, 1, 1024]⟩
abbrev S8x2887x1024x1 : Shape := ⟨4, ![8, 2887, 1024, 1]⟩
abbrev S1 : Shape := ⟨1, ![1]⟩
abbrev S1x1x1x1 : Shape := ⟨4, ![1, 1, 1, 1]⟩
abbrev S8x2888x1024 : Shape := ⟨3, ![8, 2888, 1024]⟩

class Facts : Prop where
  bcast_S_S8x2887x1024 : S_.BroadcastsInDim S8x2887x1024 (![] : Fin 0 → Fin S8x2887x1024.rank)
  reducesTo_S8x2887x1024_S8x1024_d1 : S8x2887x1024.ReducesTo [1] S8x1024
  h_S_ : 0 < S_.numel
  bcast_S8x1024_S8x1x1024_0_2 : S8x1024.BroadcastsInDim S8x1x1024 (![0, 2] : Fin 2 → Fin S8x1x1024.rank)
  bcast_S_S8x1x1024 : S_.BroadcastsInDim S8x1x1024 (![] : Fin 0 → Fin S8x1x1024.rank)
  bcast_S8x1x1024_S8x2887x1024_0_1_2 : S8x1x1024.BroadcastsInDim S8x2887x1024 (![0, 1, 2] : Fin 3 → Fin S8x2887x1024.rank)
  shapeCasts_S8x2887x1024_S8x2887x1024x1 : S8x2887x1024.ShapeCasts S8x2887x1024x1
  bcast_S_S8x2887x1024x1 : S_.BroadcastsInDim S8x2887x1024x1 (![] : Fin 0 → Fin S8x2887x1024x1.rank)
  bcast_S1_S1x1x1x1_3 : S1.BroadcastsInDim S1x1x1x1 (![3] : Fin 1 → Fin S1x1x1x1.rank)
  bcast_S1x1x1x1_S8x2887x1024x1_0_1_2_3 : S1x1x1x1.BroadcastsInDim S8x2887x1024x1 (![0, 1, 2, 3] : Fin 4 → Fin S8x2887x1024x1.rank)
  reducesTo_S8x2887x1024x1_S8x2887x1024_d3 : S8x2887x1024x1.ReducesTo [3] S8x2887x1024
  bcast_S_S_ : S_.BroadcastsInDim S_ (![] : Fin 0 → Fin S_.rank)
  reduceWindows_S8x2887x1024_S8x2887x1024_w1s1p0_0_w2887s1p2886_0_w1s1p0_0 : S8x2887x1024.ReduceWindows (![1, 2887, 1] : Fin 3 → Nat) ![1, 1, 1] ![0, 2886, 0] ![0, 0, 0] S8x2887x1024
  slices_S8x2887x1024_S8x1x1024_0_0_0 : S8x2887x1024.Slices ![0, 0, 0] S8x1x1024
  concatenates_S8x1x1024_S8x2887x1024_S8x2888x1024_d1 : Shape.Concatenates [S8x1x1024, S8x2887x1024] S8x2888x1024 1
  slices_S8x2888x1024_S8x2887x1024_0_0_0 : S8x2888x1024.Slices ![0, 0, 0] S8x2887x1024
  bcast_S_S8x1024 : S_.BroadcastsInDim S8x1024 (![] : Fin 0 → Fin S8x1024.rank)
  gather_S8x2887x1024_S8x2887x1024x1_S8x2887x1024_n_1_02_02_1_3_111_wf : GatherDims.WF S8x2887x1024 S8x2887x1024x1 S8x2887x1024 [] [1] [0, 2] [1] [0, 2] 3 ![1, 1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S8x2887x1024_S8x2887x1024x1_S8x2887x1024_n_1_02_02_1_3_111 : GatherDims S8x2887x1024 S8x2887x1024x1 S8x2887x1024 where
  offsetDims := []
  collapsedSliceDims := [1]
  operandBatchingDims := [0, 2]
  startIndicesBatchingDims := [0, 2]
  startIndexMap := [1]
  indexVectorDim := 3
  sliceSizes := ![1, 1, 1]
  wf := gather_S8x2887x1024_S8x2887x1024x1_S8x2887x1024_n_1_02_02_1_3_111_wf
def comparator_i32_i32_d1 : BitVec 32 × BitVec 32 → BitVec 32 × BitVec 32 → BitVec 1 :=
  fun l r =>
    let v2 := IntOp.cmpi .slt l.1 r.1
    v2

def fn_where {F : FTy → Type} [FloatOps F] (arg0 : IVec S8x1x1024 1) (arg1 : FVec F S8x1x1024 .f32) (arg2 : FVec F S_ .f32) : FVec F S8x1x1024 .f32 :=
  let v0 : FVec F S_ .f32 := id arg2
  let v1 : FVec F S8x1x1024 .f32 := broadcastInDim S8x1x1024 ![] bcast_S_S8x1x1024 v0
  let v2 : FVec F S8x1x1024 .f32 := select arg0 arg1 v1
  v2

def fn_clip {F : FTy → Type} [FloatOps F] (arg0 : FVec F S8x2887x1024 .f32) (arg1 : FVec F S_ .f32) (arg2 : FVec F S_ .f32) : FVec F S8x2887x1024 .f32 :=
  let v0 : FVec F S_ .f32 := id arg1
  let v1 : FVec F S8x2887x1024 .f32 := broadcastInDim S8x2887x1024 ![] bcast_S_S8x2887x1024 v0
  let v2 : FVec F S8x2887x1024 .f32 := maximumf v1 arg0
  let v3 : FVec F S_ .f32 := id arg2
  let v4 : FVec F S8x2887x1024 .f32 := broadcastInDim S8x2887x1024 ![] bcast_S_S8x2887x1024 v3
  let v5 : FVec F S8x2887x1024 .f32 := minimumf v4 v2
  v5

def fn_argsort {F : FTy → Type} [FloatOps F] (arg0 : FVec F S8x2887x1024 .f32) : IVec S8x2887x1024 32 :=
  let v0 : IVec S8x2887x1024 32 := iotaInDim S8x2887x1024 32 1
  let v1_0 : FVec F S8x2887x1024 .f32 := (fun x y => (Host.sort2 S8x2887x1024 1 comparator_f32_i32_d1 x y).1) arg0 v0
  let v1_1 : IVec S8x2887x1024 32 := (fun x y => (Host.sort2 S8x2887x1024 1 comparator_f32_i32_d1 x y).2) arg0 v0
  v1_1

def fn_take_along_axis {F : FTy → Type} [FloatOps F] (arg0 : FVec F S8x2887x1024 .f32) (arg1 : IVec S8x2887x1024 32) : FVec F S8x2887x1024 .f32 :=
  let c : IVec S_ 32 := constantI S_ 32 0#32
  let v0 : IVec S8x2887x1024 32 := broadcastInDim S8x2887x1024 ![] bcast_S_S8x2887x1024 c
  let v1 : IVec S8x2887x1024 1 := cmpi .slt arg1 v0
  let c_0 : IVec S_ 32 := constantI S_ 32 2887#32
  let v2 : IVec S8x2887x1024 32 := broadcastInDim S8x2887x1024 ![] bcast_S_S8x2887x1024 c_0
  let v3 : IVec S8x2887x1024 32 := addi arg1 v2
  let v4 : IVec S8x2887x1024 32 := select v1 v3 arg1
  let v5 : IVec S8x2887x1024x1 32 := shapeCast S8x2887x1024x1 v4 shapeCasts_S8x2887x1024_S8x2887x1024x1
  let c_1 : IVec S1 32 := constantI S1 32 2886#32
  let c_2 : IVec S_ 32 := constantI S_ 32 0#32
  let v6 : IVec S8x2887x1024x1 32 := broadcastInDim S8x2887x1024x1 ![] bcast_S_S8x2887x1024x1 c_2
  let v7 : IVec S8x2887x1024x1 1 := cmpi .sge v5 v6
  let v8 : IVec S1x1x1x1 32 := broadcastInDim S1x1x1x1 ![3] bcast_S1_S1x1x1x1_3 c_1
  let v9 : IVec S8x2887x1024x1 32 := broadcastInDim S8x2887x1024x1 ![0, 1, 2, 3] bcast_S1x1x1x1_S8x2887x1024x1_0_1_2_3 v8
  let v10 : IVec S8x2887x1024x1 1 := cmpi .sle v5 v9
  let v11 : IVec S8x2887x1024x1 1 := andi v7 v10
  let c_3 : IVec S_ 1 := constantI S_ 1 1#1
  let v12 : IVec S8x2887x1024 1 := (fun x v => Host.reduce IntOp.andi x v reducesTo_S8x2887x1024x1_S8x2887x1024_d3 h_S_) v11 c_3
  let v13 : FVec F S8x2887x1024 .f32 := (fun x i => Host.gather gather_S8x2887x1024_S8x2887x1024x1_S8x2887x1024_n_1_02_02_1_3_111 x i) arg0 v5
  let cst : FVec F S_ .f32 := constant S_ .f32 0x7FC00000#32
  let v14 : FVec F S8x2887x1024 .f32 := broadcastInDim S8x2887x1024 ![] bcast_S_S8x2887x1024 cst
  let v15 : FVec F S8x2887x1024 .f32 := select v12 v13 v14
  v15

def fn_cumsum_0 {F : FTy → Type} [FloatOps F] (arg0 : FVec F S8x2887x1024 .f32) : FVec F S8x2887x1024 .f32 :=
  let cst : FVec F S_ .f32 := constant S_ .f32 0x00000000#32
  let v0 : FVec F S_ .f32 := broadcastInDim S_ ![] bcast_S_S_ cst
  let v1 : FVec F S8x2887x1024 .f32 := (fun x v => Host.reduceWindowAdd ![1, 2887, 1] ![1, 1, 1] ![0, 2886, 0] ![0, 0, 0] x v reduceWindows_S8x2887x1024_S8x2887x1024_w1s1p0_0_w2887s1p2886_0_w1s1p0_0 h_S_) arg0 v0
  v1

def fn_cumsum {F : FTy → Type} [FloatOps F] (arg0 : FVec F S8x2887x1024 .f32) : FVec F S8x2887x1024 .f32 :=
  let v0 : FVec F S8x2887x1024 .f32 := fn_cumsum_0 (F := F) arg0
  v0

def fn_argsort_1 {F : FTy → Type} [FloatOps F] (arg0 : IVec S8x2887x1024 32) : IVec S8x2887x1024 32 :=
  let v0 : IVec S8x2887x1024 32 := iotaInDim S8x2887x1024 32 1
  let v1_0 : IVec S8x2887x1024 32 := (fun x y => (Host.sort2 S8x2887x1024 1 comparator_i32_i32_d1 x y).1) arg0 v0
  let v1_1 : IVec S8x2887x1024 32 := (fun x y => (Host.sort2 S8x2887x1024 1 comparator_i32_i32_d1 x y).2) arg0 v0
  v1_1

def fn_take_along_axis_2 {F : FTy → Type} [FloatOps F] (arg0 : IVec S8x2887x1024 1) (arg1 : IVec S8x2887x1024 32) : IVec S8x2887x1024 1 :=
  let c : IVec S_ 32 := constantI S_ 32 0#32
  let v0 : IVec S8x2887x1024 32 := broadcastInDim S8x2887x1024 ![] bcast_S_S8x2887x1024 c
  let v1 : IVec S8x2887x1024 1 := cmpi .slt arg1 v0
  let c_0 : IVec S_ 32 := constantI S_ 32 2887#32
  let v2 : IVec S8x2887x1024 32 := broadcastInDim S8x2887x1024 ![] bcast_S_S8x2887x1024 c_0
  let v3 : IVec S8x2887x1024 32 := addi arg1 v2
  let v4 : IVec S8x2887x1024 32 := select v1 v3 arg1
  let v5 : IVec S8x2887x1024x1 32 := shapeCast S8x2887x1024x1 v4 shapeCasts_S8x2887x1024_S8x2887x1024x1
  let c_1 : IVec S1 32 := constantI S1 32 2886#32
  let c_2 : IVec S_ 32 := constantI S_ 32 0#32
  let v6 : IVec S8x2887x1024x1 32 := broadcastInDim S8x2887x1024x1 ![] bcast_S_S8x2887x1024x1 c_2
  let v7 : IVec S8x2887x1024x1 1 := cmpi .sge v5 v6
  let v8 : IVec S1x1x1x1 32 := broadcastInDim S1x1x1x1 ![3] bcast_S1_S1x1x1x1_3 c_1
  let v9 : IVec S8x2887x1024x1 32 := broadcastInDim S8x2887x1024x1 ![0, 1, 2, 3] bcast_S1x1x1x1_S8x2887x1024x1_0_1_2_3 v8
  let v10 : IVec S8x2887x1024x1 1 := cmpi .sle v5 v9
  let v11 : IVec S8x2887x1024x1 1 := andi v7 v10
  let c_3 : IVec S_ 1 := constantI S_ 1 1#1
  let v12 : IVec S8x2887x1024 1 := (fun x v => Host.reduce IntOp.andi x v reducesTo_S8x2887x1024x1_S8x2887x1024_d3 h_S_) v11 c_3
  let v13 : IVec S8x2887x1024 1 := (fun x i => Host.gather gather_S8x2887x1024_S8x2887x1024x1_S8x2887x1024_n_1_02_02_1_3_111 x i) arg0 v5
  let c_4 : IVec S_ 1 := constantI S_ 1 1#1
  let v14 : IVec S8x2887x1024 1 := broadcastInDim S8x2887x1024 ![] bcast_S_S8x2887x1024 c_4
  let v15 : IVec S8x2887x1024 1 := select v12 v13 v14
  v15

def fn_where_3 {F : FTy → Type} [FloatOps F] (arg0 : IVec S8x2887x1024 1) (arg1 : FVec F S8x2887x1024 .f32) (arg2 : FVec F S_ .f32) : FVec F S8x2887x1024 .f32 :=
  let v0 : FVec F S_ .f32 := id arg2
  let v1 : FVec F S8x2887x1024 .f32 := broadcastInDim S8x2887x1024 ![] bcast_S_S8x2887x1024 v0
  let v2 : FVec F S8x2887x1024 .f32 := select arg0 arg1 v1
  v2

def fn_where_4 {F : FTy → Type} [FloatOps F] (arg0 : IVec S8x2887x1024 1) (arg1 : FVec F S_ .f32) (arg2 : FVec F S8x2887x1024 .f32) : FVec F S8x2887x1024 .f32 :=
  let v0 : FVec F S_ .f32 := id arg1
  let v1 : FVec F S8x2887x1024 .f32 := broadcastInDim S8x2887x1024 ![] bcast_S_S8x2887x1024 v0
  let v2 : FVec F S8x2887x1024 .f32 := select arg0 v1 arg2
  v2

def fn_part3 {F : FTy → Type} [FloatOps F] (main_v19 : FVec F S8x2887x1024 .f32) (main_v53 : FVec F S8x2887x1024 .f32) (main_v54 : FVec F S8x2887x1024 .f32) (main_cst_14 : FVec F S_ .f32) : IVec S8x1024 1 :=
  let main_v55 : FVec F S8x2887x1024 .f32 := broadcastInDim S8x2887x1024 ![] bcast_S_S8x2887x1024 main_cst_14
  let main_v56 : FVec F S8x2887x1024 .f32 := subf main_v55 main_v53
  let main_cst_15 : FVec F S_ .f32 := constant S_ .f32 0xC28C0000#32
  let main_v57 : FVec F S8x2887x1024 .f32 := broadcastInDim S8x2887x1024 ![] bcast_S_S8x2887x1024 main_cst_15
  let main_v58 : FVec F S8x2887x1024 .f32 := mulf main_v56 main_v57
  let main_v59 : FVec F S8x2887x1024 .f32 := addf main_v54 main_v58
  let main_cst_16 : FVec F S_ .f32 := constant S_ .f32 0xC28C0000#32
  let main_v60 : FVec F S8x2887x1024 .f32 := broadcastInDim S8x2887x1024 ![] bcast_S_S8x2887x1024 main_cst_16
  let main_v61 : IVec S8x2887x1024 1 := cmpf .ogt main_v59 main_v60
  let main_cst_17 : FVec F S_ .f32 := constant S_ .f32 0x7F800000#32
  let main_v62 : FVec F S8x2887x1024 .f32 := fn_where_3 (F := F) main_v61 main_v19 main_cst_17
  let main_cst_18 : FVec F S_ .f32 := constant S_ .f32 0x7F800000#32
  let main_v63 : FVec F S8x1024 .f32 := (fun x v => Host.reduce FloatOps.minimumf x v reducesTo_S8x2887x1024_S8x1024_d1 h_S_) main_v62 main_cst_18
  let main_cst_19 : FVec F S_ .f32 := constant S_ .f32 0xFF800000#32
  let main_v64 : FVec F S8x2887x1024 .f32 := fn_where_4 (F := F) main_v61 main_cst_19 main_v19
  let main_cst_20 : FVec F S_ .f32 := constant S_ .f32 0xFF800000#32
  let main_v65 : FVec F S8x1024 .f32 := (fun x v => Host.reduce FloatOps.maximumf x v reducesTo_S8x2887x1024_S8x1024_d1 h_S_) main_v64 main_cst_20
  let main_v66 : FVec F S8x1024 .f32 := subf main_v63 main_v65
  let main_cst_21 : FVec F S_ .f32 := constant S_ .f32 0x34000000#32
  let main_v67 : FVec F S8x1024 .f32 := broadcastInDim S8x1024 ![] bcast_S_S8x1024 main_cst_21
  let main_v68 : IVec S8x1024 1 := cmpf .oge main_v66 main_v67
  main_v68

def fn_part2 {F : FTy → Type} [FloatOps F] (main_v19 : FVec F S8x2887x1024 .f32) (main_v23 : FVec F S8x2887x1024 .f32) (main_v29 : FVec F S8x1x1024 .f32) (main_v35 : FVec F S8x1x1024 .f32) : IVec S8x1024 1 :=
  let main_v36 : FVec F S8x1x1024 .f32 := addf main_v35 main_v29
  let main_v37 : FVec F S8x2887x1024 .f32 := broadcastInDim S8x2887x1024 ![0, 1, 2] bcast_S8x1x1024_S8x2887x1024_0_1_2 main_v36
  let main_v38 : FVec F S8x2887x1024 .f32 := subf main_v23 main_v37
  let main_cst_11 : FVec F S_ .f32 := constant S_ .f32 0xC28C0000#32
  let main_cst_12 : FVec F S_ .f32 := constant S_ .f32 0x00000000#32
  let main_v39 : FVec F S8x2887x1024 .f32 := fn_clip (F := F) main_v38 main_cst_11 main_cst_12
  let main_v40 : FVec F S8x2887x1024 .f32 := Host.negf main_v39
  let main_v41 : IVec S8x2887x1024 32 := fn_argsort (F := F) main_v40
  let main_v42 : FVec F S8x2887x1024 .f32 := fn_take_along_axis (F := F) main_v39 main_v41
  let main_v43 : FVec F S8x2887x1024 .f32 := Host.exp main_v42
  let main_v44 : FVec F S8x2887x1024 .f32 := fn_cumsum (F := F) main_v43
  let main_cst_13 : FVec F S_ .f32 := constant S_ .f32 0x3F5C28F6#32
  let main_v45 : FVec F S8x2887x1024 .f32 := broadcastInDim S8x2887x1024 ![] bcast_S_S8x2887x1024 main_cst_13
  let main_v46 : IVec S8x2887x1024 1 := cmpf .olt main_v44 main_v45
  let main_v47 : IVec S8x1x1024 1 := (extractStridedSlice S8x1x1024 ![0, 0, 0] · slices_S8x2887x1024_S8x1x1024_0_0_0) main_v46
  let main_c : IVec S_ 1 := constantI S_ 1 1#1
  let main_v48 : IVec S8x1x1024 1 := broadcastInDim S8x1x1024 ![] bcast_S_S8x1x1024 main_c
  let main_v49 : IVec S8x2888x1024 1 := (fun a b => concatenate S8x2888x1024 1 [⟨S8x1x1024, a⟩, ⟨S8x2887x1024, b⟩] concatenates_S8x1x1024_S8x2887x1024_S8x2888x1024_d1) main_v48 main_v46
  let main_v50 : IVec S8x2887x1024 1 := (extractStridedSlice S8x2887x1024 ![0, 0, 0] · slices_S8x2888x1024_S8x2887x1024_0_0_0) main_v49
  let main_v51 : IVec S8x2887x1024 32 := fn_argsort_1 (F := F) main_v41
  let main_v52 : IVec S8x2887x1024 1 := fn_take_along_axis_2 (F := F) main_v50 main_v51
  let main_v53 : FVec F S8x2887x1024 .f32 := uitofp .f32 main_v52
  let main_v54 : FVec F S8x2887x1024 .f32 := mulf main_v53 main_v39
  let main_cst_14 : FVec F S_ .f32 := constant S_ .f32 0x3F800000#32
  fn_part3 (F := F) main_v19 main_v53 main_v54 main_cst_14

def fn_part1 {F : FTy → Type} [FloatOps F] (main_arg0 : FVec F S8x2887x1024 .f32) (main_arg1 : FVec F S8x2887x1024 .f32) (main_v18 : FVec F S8x2887x1024 .f32) : IVec S8x1024 1 :=
  let main_cst_4 : FVec F S_ .f32 := constant S_ .f32 0xC28C0000#32
  let main_cst_5 : FVec F S_ .f32 := constant S_ .f32 0x00000000#32
  let main_v19 : FVec F S8x2887x1024 .f32 := fn_clip (F := F) main_v18 main_cst_4 main_cst_5
  let main_v20 : FVec F S8x2887x1024 .f32 := subf main_arg0 main_arg1
  let main_cst_6 : FVec F S_ .f32 := constant S_ .f32 0x40400000#32
  let main_v21 : FVec F S8x2887x1024 .f32 := broadcastInDim S8x2887x1024 ![] bcast_S_S8x2887x1024 main_cst_6
  let main_v22 : FVec F S8x2887x1024 .f32 := mulf main_v21 main_v20
  let main_v23 : FVec F S8x2887x1024 .f32 := addf main_arg1 main_v22
  let main_cst_7 : FVec F S_ .f32 := constant S_ .f32 0xFF800000#32
  let main_v24 : FVec F S8x1024 .f32 := (fun x v => Host.reduce FloatOps.maximumf x v reducesTo_S8x2887x1024_S8x1024_d1 h_S_) main_v23 main_cst_7
  let main_v25 : FVec F S8x1x1024 .f32 := broadcastInDim S8x1x1024 ![0, 2] bcast_S8x1024_S8x1x1024_0_2 main_v24
  let main_v26 : FVec F S8x1x1024 .f32 := Host.absf main_v25
  let main_cst_8 : FVec F S_ .f32 := constant S_ .f32 0x7F800000#32
  let main_v27 : FVec F S8x1x1024 .f32 := broadcastInDim S8x1x1024 ![] bcast_S_S8x1x1024 main_cst_8
  let main_v28 : IVec S8x1x1024 1 := cmpf .olt main_v26 main_v27
  let main_cst_9 : FVec F S_ .f32 := constant S_ .f32 0x00000000#32
  let main_v29 : FVec F S8x1x1024 .f32 := fn_where (F := F) main_v28 main_v25 main_cst_9
  let main_v30 : FVec F S8x2887x1024 .f32 := broadcastInDim S8x2887x1024 ![0, 1, 2] bcast_S8x1x1024_S8x2887x1024_0_1_2 main_v29
  let main_v31 : FVec F S8x2887x1024 .f32 := subf main_v23 main_v30
  let main_v32 : FVec F S8x2887x1024 .f32 := Host.exp main_v31
  let main_cst_10 : FVec F S_ .f32 := constant S_ .f32 0x00000000#32
  let main_v33 : FVec F S8x1024 .f32 := (fun x v => Host.reduceAdd x v reducesTo_S8x2887x1024_S8x1024_d1 h_S_) main_v32 main_cst_10
  let main_v34 : FVec F S8x1x1024 .f32 := broadcastInDim S8x1x1024 ![0, 2] bcast_S8x1024_S8x1x1024_0_2 main_v33
  let main_v35 : FVec F S8x1x1024 .f32 := Host.log main_v34
  fn_part2 (F := F) main_v19 main_v23 main_v29 main_v35

def fn {F : FTy → Type} [FloatOps F] (main_arg0 : FVec F S8x2887x1024 .f32) (main_arg1 : FVec F S8x2887x1024 .f32) : IVec S8x1024 1 :=
  let main_v0 : FVec F S8x2887x1024 .f32 := subf main_arg0 main_arg1
  let main_cst : FVec F S_ .f32 := constant S_ .f32 0x40400000#32
  let main_v1 : FVec F S8x2887x1024 .f32 := broadcastInDim S8x2887x1024 ![] bcast_S_S8x2887x1024 main_cst
  let main_v2 : FVec F S8x2887x1024 .f32 := mulf main_v1 main_v0
  let main_v3 : FVec F S8x2887x1024 .f32 := addf main_arg1 main_v2
  let main_cst_0 : FVec F S_ .f32 := constant S_ .f32 0xFF800000#32
  let main_v4 : FVec F S8x1024 .f32 := (fun x v => Host.reduce FloatOps.maximumf x v reducesTo_S8x2887x1024_S8x1024_d1 h_S_) main_v3 main_cst_0
  let main_v5 : FVec F S8x1x1024 .f32 := broadcastInDim S8x1x1024 ![0, 2] bcast_S8x1024_S8x1x1024_0_2 main_v4
  let main_v6 : FVec F S8x1x1024 .f32 := Host.absf main_v5
  let main_cst_1 : FVec F S_ .f32 := constant S_ .f32 0x7F800000#32
  let main_v7 : FVec F S8x1x1024 .f32 := broadcastInDim S8x1x1024 ![] bcast_S_S8x1x1024 main_cst_1
  let main_v8 : IVec S8x1x1024 1 := cmpf .olt main_v6 main_v7
  let main_cst_2 : FVec F S_ .f32 := constant S_ .f32 0x00000000#32
  let main_v9 : FVec F S8x1x1024 .f32 := fn_where (F := F) main_v8 main_v5 main_cst_2
  let main_v10 : FVec F S8x2887x1024 .f32 := broadcastInDim S8x2887x1024 ![0, 1, 2] bcast_S8x1x1024_S8x2887x1024_0_1_2 main_v9
  let main_v11 : FVec F S8x2887x1024 .f32 := subf main_v3 main_v10
  let main_v12 : FVec F S8x2887x1024 .f32 := Host.exp main_v11
  let main_cst_3 : FVec F S_ .f32 := constant S_ .f32 0x00000000#32
  let main_v13 : FVec F S8x1024 .f32 := (fun x v => Host.reduceAdd x v reducesTo_S8x2887x1024_S8x1024_d1 h_S_) main_v12 main_cst_3
  let main_v14 : FVec F S8x1x1024 .f32 := broadcastInDim S8x1x1024 ![0, 2] bcast_S8x1024_S8x1x1024_0_2 main_v13
  let main_v15 : FVec F S8x1x1024 .f32 := Host.log main_v14
  let main_v16 : FVec F S8x1x1024 .f32 := addf main_v15 main_v9
  let main_v17 : FVec F S8x2887x1024 .f32 := broadcastInDim S8x2887x1024 ![0, 1, 2] bcast_S8x1x1024_S8x2887x1024_0_1_2 main_v16
  let main_v18 : FVec F S8x2887x1024 .f32 := subf main_v3 main_v17
  fn_part1 (F := F) main_arg0 main_arg1 main_v18
-- ==== Kernel.lean ====
abbrev S8x2887x1024 : Shape := ⟨3, ![8, 2887, 1024]⟩
abbrev S1x2887x256 : Shape := ⟨3, ![1, 2887, 256]⟩
abbrev S1x256 : Shape := ⟨2, ![1, 256]⟩
abbrev S1x1x256 : Shape := ⟨3, ![1, 1, 256]⟩
abbrev S1x64x256 : Shape := ⟨3, ![1, 64, 256]⟩
abbrev S1x7x256 : Shape := ⟨3, ![1, 7, 256]⟩

abbrev nBuf : Space → Nat
  | .hbm => 3
  | .vmem => 6
  | .smem => 0
  | _ => 0

abbrev bufTy : (tb : Table) → Fin (tcTables nBuf tb) → BufTy
  | .hbm, ⟨0, _⟩ => ⟨S8x2887x1024, .f32⟩
  | .hbm, ⟨1, _⟩ => ⟨S8x2887x1024, .f32⟩
  | .hbm, ⟨2, _⟩ => ⟨S8x2887x1024, .f32⟩
  | .local _ .vmem, ⟨0, _⟩ => ⟨S1x2887x256, .f32⟩
  | .local _ .vmem, ⟨1, _⟩ => ⟨S1x2887x256, .f32⟩
  | .local _ .vmem, ⟨2, _⟩ => ⟨S1x2887x256, .f32⟩
  | .local _ .vmem, ⟨3, _⟩ => ⟨S1x2887x256, .f32⟩
  | .local _ .vmem, ⟨4, _⟩ => ⟨S1x2887x256, .f32⟩
  | .local _ .vmem, ⟨5, _⟩ => ⟨S1x2887x256, .f32⟩
  | _, _ => ⟨S8x2887x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c27_i32 : BitVec 32 := 27#32
  let v110 : BitVec 32 := Scalar.addi c0_i32 c27_i32
  let c1_i32 : BitVec 32 := 1#32
  ⟨c0_i32, v110, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2887x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2887x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2887x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8x2887x1024 : Shape := ⟨3, ![8, 2887, 1024]⟩
abbrev S_ : Shape := ⟨0, ![]⟩
abbrev S8x1024 : Shape := ⟨2, ![8, 1024]⟩
abbrev S8x1x1024 : Shape := ⟨3, ![8, 1, 1024]⟩
abbrev S8x2887x1024x1 : Shape := ⟨4, ![8, 2887, 1024, 1]⟩
abbrev S1 : Shape := ⟨1, ![1]⟩
abbrev S1x1x1x1 : Shape := ⟨4, ![1, 1, 1, 1]⟩
abbrev S8x2888x1024 : Shape := ⟨3, ![8, 2888, 1024]⟩

abbrev nBuf : Space → Nat
  | .hbm => 108
  | .vmem => 0
  | .smem => 0
  | _ => 0

abbrev bufTy : (tb : Table) → Fin (tcTables nBuf tb) → BufTy
  | .hbm, ⟨0, _⟩ => ⟨S8x2887x1024, .f32⟩
  | .hbm, ⟨1, _⟩ => ⟨S8x2887x1024, .f32⟩
  | .hbm, ⟨2, _⟩ => ⟨S8x2887x1024, .f32⟩
  | .hbm, ⟨3, _⟩ => ⟨S_, .f32⟩
  | .hbm, ⟨4, _⟩ => ⟨S8x2887x1024, .f32⟩
  | .hbm, ⟨5, _⟩ => ⟨S8x2887x1024, .f32⟩
  | .hbm, ⟨6, _⟩ => ⟨S8x2887x1024, .f32⟩
  | .hbm, ⟨7, _⟩ => ⟨S_, .f32⟩
  | .hbm, ⟨8, _⟩ => ⟨S8x1024, .f32⟩
  | .hbm, ⟨9, _⟩ => ⟨S8x1x1024, .f32⟩
  | .hbm, ⟨10, _⟩ => ⟨S8x1x1024, .f32⟩
  | .hbm, ⟨11, _⟩ => ⟨S_, .f32⟩
  | .hbm, ⟨12, _⟩ => ⟨S8x1x1024, .f32⟩
  | .hbm, ⟨13, _⟩ => ⟨S8x1x1024, .i1⟩
  | .hbm, ⟨14, _⟩ => ⟨S_, .f32⟩
  | .hbm, ⟨15, _⟩ => ⟨S_, .f32⟩
  | .hbm, ⟨16, _⟩ => ⟨S8x1x1024, .f32⟩
  | .hbm, ⟨17, _⟩ => ⟨S8x1x1024, .f32⟩
  | .hbm, ⟨18, _⟩ => ⟨S8x2887x1024, .f32⟩
  | .hbm, ⟨19, _⟩ => ⟨S8x2887x1024, .f32⟩
  | .hbm, ⟨20, _⟩ => ⟨S8x2887x1024, .f32⟩
  | .hbm, ⟨21, _⟩ => ⟨S_, .f32⟩
  | .hbm, ⟨22, _⟩ => ⟨S8x1024, .f32⟩
  | .hbm, ⟨23, _⟩ => ⟨S8x1x1024, .f32⟩
  | .hbm, ⟨24, _⟩ => ⟨S8x1x1024, .f32⟩
  | .hbm, ⟨25, _⟩ => ⟨S8x1x1024, .f32⟩
  | .hbm, ⟨26, _⟩ => ⟨S8x2887x1024, .f32⟩
  | .hbm, ⟨27, _⟩ => ⟨S8x2887x1024, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x2887x1024, .f32⟩
  | .hbm, ⟨32, _⟩ => ⟨S8x2887x1024, .f32⟩
  | .hbm, ⟨33, _⟩ => ⟨S_, .f32⟩
  | .hbm, ⟨34, _⟩ => ⟨S8x2887x1024, .f32⟩
  | .hbm, ⟨35, _⟩ => ⟨S8x2887x1024, .f32⟩
  | .hbm, ⟨36, _⟩ => ⟨S8x2887x1024, .f32⟩
  | .hbm, ⟨37, _⟩ => ⟨S8x2887x1024, .i32⟩
  | .hbm, ⟨38, _⟩ => ⟨S8x2887x1024, .f32⟩
  | .hbm, ⟨39, _⟩ => ⟨S8x2887x1024, .i32⟩
  | .hbm, ⟨40, _⟩ => ⟨S_, .i32⟩
  | .hbm, ⟨41, _⟩ => ⟨S8x2887x1024, .i32⟩
  | .hbm, ⟨42, _⟩ => ⟨S8x2887x1024, .i1⟩
  | .hbm, ⟨43, _⟩ => ⟨S_, .i32⟩
  | .hbm, ⟨44, _⟩ => ⟨S8x2887x1024, .i32⟩
  | .hbm, ⟨45, _⟩ => ⟨S8x2887x1024, .i32⟩
  | .hbm, ⟨46, _⟩ => ⟨S8x2887x1024, .i32⟩
  | .hbm, ⟨47, _⟩ => ⟨S8x2887x1024x1, .i32⟩
  | .hbm, ⟨48, _⟩ => ⟨S1, .i32⟩
  | .hbm, ⟨49, _⟩ => ⟨S_, .i32⟩
  | .hbm, ⟨50, _⟩ => ⟨S8x2887x1024x1, .i32⟩
  | .hbm, ⟨51, _⟩ => ⟨S8x2887x1024x1, .i1⟩
  | .hbm, ⟨52, _⟩ => ⟨S1x1x1x1, .i32⟩
  | .hbm, ⟨53, _⟩ => ⟨S8x2887x1024x1, .i32⟩
  | .hbm, ⟨54, _⟩ => ⟨S8x2887x1024x1, .i1⟩
  | .hbm, ⟨55, _⟩ => ⟨S8x2887x1024x1, .i1⟩
  | .hbm, ⟨56, _⟩ => ⟨S_, .i1⟩
  | .hbm, ⟨57, _⟩ => ⟨S8x2887x1024, .i1⟩
  | .hbm, ⟨58, _⟩ => ⟨S8x2887x1024, .f32⟩
  | .hbm, ⟨59, _⟩ => ⟨S_, .f32⟩
  | .hbm, ⟨60, _⟩ => ⟨S8x2887x1024, .f32⟩
  | .hbm, ⟨61, _⟩ => ⟨S8x2887x1024, .f32⟩
  | .hbm, ⟨62, _⟩ => ⟨S8x2887x1024, .f32⟩
  | .hbm, ⟨63, _⟩ => ⟨S_, .f32⟩
  | .hbm, ⟨64, _⟩ => ⟨S_, .f32⟩
  | .hbm, ⟨65, _⟩ => ⟨S8x2887x1024, .f32⟩
  | .hbm, ⟨66, _⟩ => ⟨S_, .f32⟩
  | .hbm, ⟨67, _⟩ => ⟨S8x2887x1024, .f32⟩
  | .hbm, ⟨68, _⟩ => ⟨S8x2887x1024, .i1⟩
  | .hbm, ⟨69, _⟩ => ⟨S8x1x1024, .i1⟩
  | .hbm, ⟨70, _⟩ => ⟨S_, .i1⟩
  | .hbm, ⟨71, _⟩ => ⟨S8x1x1024, .i1⟩
  | .hbm, ⟨72, _⟩ => ⟨S8x2888x1024, .i1⟩
  | .hbm, ⟨73, _⟩ => ⟨S8x2887x1024, .i1⟩
  | .hbm, ⟨74, _⟩ => ⟨S8x2887x1024, .i32⟩
  | .hbm, ⟨75, _⟩ => ⟨S8x2887x1024, .i32⟩
  | .hbm, ⟨76, _⟩ => ⟨S8x2887x1024, .i32⟩
  | .hbm, ⟨77, _⟩ => ⟨S_, .i32⟩
  | .hbm, ⟨78, _⟩ => ⟨S8x2887x1024, .i32⟩
  | .hbm, ⟨79, _⟩ => ⟨S8x2887x1024, .i1⟩
  | .hbm, ⟨80, _⟩ => ⟨S_, .i32⟩
  | .hbm, ⟨81, _⟩ => ⟨S8x2887x1024, .i32⟩
  | .hbm, ⟨82, _⟩ => ⟨S8x2887x1024, .i32⟩
  | .hbm, ⟨83, _⟩ => ⟨S8x2887x1024, .i32⟩
  | .hbm, ⟨84, _⟩ => ⟨S8x2887x1024x1, .i32⟩
  | .hbm, ⟨85, _⟩ => ⟨S1, .i32⟩
  | .hbm, ⟨86, _⟩ => ⟨S_, .i32⟩
  | .hbm, ⟨87, _⟩ => ⟨S8x2887x1024x1, .i32⟩
  | .hbm, ⟨88, _⟩ => ⟨S8x2887x1024x1, .i1⟩
  | .hbm, ⟨89, _⟩ => ⟨S1x1x1x1, .i32⟩
  | .hbm, ⟨90, _⟩ => ⟨S8x2887x1024x1, .i32⟩
  | .hbm, ⟨91, _⟩ => ⟨S8x2887x1024x1, .i1⟩
  | .hbm, ⟨92, _⟩ => ⟨S8x2887x1024x1, .i1⟩
  | .hbm, ⟨93, _⟩ => ⟨S_, .i1⟩
  | .hbm, ⟨94, _⟩ => ⟨S8x2887x1024, .i1⟩
  | .hbm, ⟨95, _⟩ => ⟨S8x2887x1024, .i1⟩
  | .hbm, ⟨96, _⟩ => ⟨S_, .i1⟩
  | .hbm, ⟨97, _⟩ => ⟨S8x2887x1024, .i1⟩
  | .hbm, ⟨98, _⟩ => ⟨S8x2887x1024, .i1⟩
  | .hbm, ⟨99, _⟩ => ⟨S8x2887x1024, .f32⟩
  | .hbm, ⟨100, _⟩ => ⟨S8x2887x1024, .f32⟩
  | .hbm, ⟨101, _⟩ => ⟨S_, .f32⟩
  | .hbm, ⟨102, _⟩ => ⟨S8x2887x1024, .f32⟩
  | .hbm, ⟨103, _⟩ => ⟨S8x2887x1024, .f32⟩
  | .hbm, ⟨104, _⟩ => ⟨S_, .f32⟩
  | .hbm, ⟨105, _⟩ => ⟨S8x2887x1024, .f32⟩
  | .hbm, ⟨106, _⟩ => ⟨S8x2887x1024, .f32⟩
  | .hbm, ⟨107, _⟩ => ⟨S8x2887x1024, .f32⟩
  | _, _ => ⟨S8x2887x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v19 : Ref sig .tc := ⟨.hbm, 35, rfl⟩
abbrev main_v20 : Ref sig .tc := ⟨.hbm, 36, rfl⟩
abbrev main_call2_v0 : Ref sig .tc := ⟨.hbm, 37, rfl⟩
abbrev main_call2_v1_0 : Ref sig .tc := ⟨.hbm, 38, rfl⟩
abbrev main_v21 : Ref sig .tc := ⟨.hbm, 39, rfl⟩
abbrev main_call3_c : Ref sig .tc := ⟨.hbm, 40, rfl⟩
abbrev main_call3_v0 : Ref sig .tc := ⟨.hbm, 41, rfl⟩
abbrev main_call3_v1 : Ref sig .tc := ⟨.hbm, 42, rfl⟩
abbrev main_call3_c_0 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_v5 : Ref sig .tc := ⟨.hbm, 47, rfl⟩
abbrev main_call3_c_1 : Ref sig .tc := ⟨.hbm, 48, rfl⟩
abbrev main_call3_c_2 : Ref sig .tc := ⟨.hbm, 49, rfl⟩
abbrev main_call3_v6 : Ref sig .tc := ⟨.hbm, 50, rfl⟩
abbrev main_call3_v7 : Ref sig .tc := ⟨.hbm, 51, rfl⟩
abbrev main_call3_v8 : Ref sig .tc := ⟨.hbm, 52, rfl⟩
abbrev main_call3_v9 : Ref sig .tc := ⟨.hbm, 53, rfl⟩
abbrev main_call3_v10 : Ref sig .tc := ⟨.hbm, 54, rfl⟩
abbrev main_call3_v11 : Ref sig .tc := ⟨.hbm, 55, rfl⟩
abbrev main_call3_c_3 : Ref sig .tc := ⟨.hbm, 56, rfl⟩
abbrev main_call3_v12 : Ref sig .tc := ⟨.hbm, 57, rfl⟩
abbrev main_call3_v13 : Ref sig .tc := ⟨.hbm, 58, rfl⟩
abbrev main_call3_cst : Ref sig .tc := ⟨.hbm, 59, rfl⟩
abbrev main_call3_v14 : Ref sig .tc := ⟨.hbm, 60, rfl⟩
abbrev main_v22 : Ref sig .tc := ⟨.hbm, 61, rfl⟩
abbrev main_v23 : Ref sig .tc := ⟨.hbm, 62, rfl⟩
abbrev main_call4_call0_cst : Ref sig .tc := ⟨.hbm, 63, rfl⟩
abbrev main_call4_call0_v0 : Ref sig .tc := ⟨.hbm, 64, rfl⟩
abbrev main_v24 : Ref sig .tc := ⟨.hbm, 65, rfl⟩
abbrev main_cst_6 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_c : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_call5_v0 : Ref sig .tc := ⟨.hbm, 74, rfl⟩
abbrev main_call5_v1_0 : Ref sig .tc := ⟨.hbm, 75, rfl⟩
abbrev main_v31 : Ref sig .tc := ⟨.hbm, 76, rfl⟩
abbrev main_call6_c : Ref sig .tc := ⟨.hbm, 77, rfl⟩
abbrev main_call6_v0 : Ref sig .tc := ⟨.hbm, 78, rfl⟩
abbrev main_call6_v1 : Ref sig .tc := ⟨.hbm, 79, rfl⟩
abbrev main_call6_c_0 : Ref sig .tc := ⟨.hbm, 80, rfl⟩
abbrev main_call6_v2 : Ref sig .tc := ⟨.hbm, 81, rfl⟩
abbrev main_call6_v3 : Ref sig .tc := ⟨.hbm, 82, rfl⟩
abbrev main_call6_v4 : Ref sig .tc := ⟨.hbm, 83, rfl⟩
abbrev main_call6_v5 : Ref sig .tc := ⟨.hbm, 84, rfl⟩
abbrev main_call6_c_1 : Ref sig .tc := ⟨.hbm, 85, rfl⟩
abbrev main_call6_c_2 : Ref sig .tc := ⟨.hbm, 86, rfl⟩
abbrev main_call6_v6 : Ref sig .tc := ⟨.hbm, 87, rfl⟩
abbrev main_call6_v7 : Ref sig .tc := ⟨.hbm, 88, rfl⟩
abbrev main_call6_v8 : Ref sig .tc := ⟨.hbm, 89, rfl⟩
abbrev main_call6_v9 : Ref sig .tc := ⟨.hbm, 90, rfl⟩
abbrev main_call6_v10 : Ref sig .tc := ⟨.hbm, 91, rfl⟩
abbrev main_call6_v11 : Ref sig .tc := ⟨.hbm, 92, rfl⟩
abbrev main_call6_c_3 : Ref sig .tc := ⟨.hbm, 93, rfl⟩
abbrev main_call6_v12 : Ref sig .tc := ⟨.hbm, 94, rfl⟩
abbrev main_call6_v13 : Ref sig .tc := ⟨.hbm, 95, rfl⟩
abbrev main_call6_c_4 : Ref sig .tc := ⟨.hbm, 96, rfl⟩
abbrev main_call6_v14 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_cst_7 : Ref sig .tc := ⟨.hbm, 101, rfl⟩
abbrev main_v35 : Ref sig .tc := ⟨.hbm, 102, rfl⟩
abbrev main_v36 : Ref sig .tc := ⟨.hbm, 103, rfl⟩
abbrev main_cst_8 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩

abbrev nD : Nat := 1
abbrev τ : Topo := Topo.v7x

variable {F : FTy → Type} [FloatOps F]
-- ==== Proof.Ideal.Body.lean ====
/-
  The frame of the idealized program: the body's run at a symbolic grid point, the pipeline's proof data and the launch.

  The kernel reads its two input blocks, computes the guided values, bisects on the words of the threshold in a loop that
  touches no memory, and stores its one result block. The loop is met as the fold of its region.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic
public import Idealize.ShloMosaic.Lib.VecWindow
public import Idealize.ShloMosaic.Lib.Pipeline.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The masked sum's last partial block at trip state `(lo, hi)`: the chain the loop's parts compute. -/
def partialAt (v10 : FVec F S1x2887x256 .f32) (lo hi : IVec S1x1x256 32) : FVec F S1x64x256 .f32 :=
  let t := k0_pay8 (F := F) lo hi
  let a := k0_pay13 v10 t (k0_pay9 v10 lo hi) (k0_pay10 v10) (k0_pay11 v10 lo hi) k0_pay12
  let b := k0_pay16 v10 t a (k0_pay14 v10) (k0_pay15 t)
  let d := k0_pay18 v10 t b (k0_pay17 v10 t)
  k0_pay21 v10 t d (k0_pay19 v10) (k0_pay20 v10 t)

/-- One trip of the bisection on the words `(lo, hi)`. -/
def bisect (v10 : FVec F S1x2887x256 .f32) (v105 v106 : FVec F S1x1x256 .f32)
    (s : IVec S1x1x256 32 × IVec S1x1x256 32) : IVec S1x1x256 32 × IVec S1x1x256 32 :=
  (k0_pay4 v10 v105 v106 s.1 (k0_pay7 s.1 s.2) (k0_pay8 (F := F) s.1 s.2) (partialAt v10 s.1 s.2),
   k0_pay5 v10 v105 v106 s.2 (k0_pay7 s.1 s.2) (k0_pay8 (F := F) s.1 s.2) (partialAt v10 s.1 s.2))

/-- The words the loop ends with. -/
def words (v10 : FVec F S1x2887x256 .f32) (v105 v106 : FVec F S1x1x256 .f32) : IVec S1x1x256 32 × IVec S1x1x256 32 :=
  Scf.fold (n := k0_t1_loop.trips) (fun _ s => bisect v10 v105 v106 s) (k0_pay1, k0_pay2)

/-- The loop's region returns one bisection step, touching nothing. -/
theorem body_pure (i : grid0.Coords)
    (M0 : Memref sig .tc .vmem S1x2887x256 .f32) (h0 : M0.IsWhole)
    (M1 : Memref sig .tc .vmem S1x2887x256 .f32) (h1 : M1.IsWhole)
    (M2 : Memref sig .tc .vmem S1x2887x256 .f32) (h2 : M2.IsWhole)
    (v10 : FVec F S1x2887x256 .f32) (v105 v106 : FVec F S1x1x256 .f32) (k : Fin k0_t1_loop.trips)
    (s : IVec S1x1x256 32 × IVec S1x1x256 32) :
    k0_t1_body (F := F) i M0 h0 M1 h1 M2 h2 v10 v105 v106 k s = .ret (bisect v10 v105 v106 s) := by
  unfold k0_t1_body
  simp only [k0_part1_eq_skeleton, k0_part2_eq_skeleton, k0_part3_eq_skeleton, k0_part4_eq_skeleton, k0_part5_eq_skeleton]
  rfl

/-- So the loop is the return of its last words. -/
theorem loop_pure (i : grid0.Coords)
    (M0 : Memref sig .tc .vmem S1x2887x256 .f32) (h0 : M0.IsWhole)
    (M1 : Memref sig .tc .vmem S1x2887x256 .f32) (h1 : M1.IsWhole)
    (M2 : Memref sig .tc .vmem S1x2887x256 .f32) (h2 : M2.IsWhole)
    (v10 : FVec F S1x2887x256 .f32) (v105 v106 : FVec F S1x1x256 .f32) :
    Scf.Loop.for k0_t1_loop k0_t1_ok (k0_pay1, k0_pay2) (k0_t1_body (F := F) i M0 h0 M1 h1 M2 h2 v10 v105 v106)
      = .ret (words v10 v105 v106) :=
  Scf.for_pure _ _ _ _ _ _ _ (body_pure i M0 h0 M1 h1 M2 h2 v10 v105 v106)

/-- The normaliser of a block's column: the sum of its exponentials. -/
def sums (x y : FVec F S1x2887x256 .f32) : FVec F S1x1x256 .f32 := k0_pay26 (k0_pay24 x y) (k0_pay25 x y)

/-- What the body leaves in its result block from the two input blocks. -/
def outBlock (x y : FVec F S1x2887x256 .f32) : FVec F S1x2887x256 .f32 :=
  k0_pay6 (k0_pay22 x y) (k0_pay23 x y) (k0_pay24 x y) (sums x y) (words (k0_pay24 x y) (sums x y) k0_pay27).1

/-- The body from its two input blocks held at `x` and `y` and its result block at anything: it runs to its return with
    the inputs as they were and the result at `outBlock x y`. -/
theorem kernelRun (c : Dev nD) (i : grid0.Coords)
    (M0 : Memref sig .tc .vmem S1x2887x256 .f32) (h0 : M0.IsWhole)
    (M1 : Memref sig .tc .vmem S1x2887x256 .f32) (h1 : M1.IsWhole)
    (M2 : Memref sig .tc .vmem S1x2887x256 .f32) (h2 : M2.IsWhole)
    (x y : FVec F S1x2887x256 .f32) (K : PUnit → sProp 𝕄) :
    iprop(owns (c : Thread nD τ) M0 fullShare x ∗ owns (c : Thread nD τ) M1 fullShare y
        ∗ (∃ d, owns (c : Thread nD τ) M2 fullShare d)
        ∗ (iprop(owns (c : Thread nD τ) M0 fullShare x ∗ owns (c : Thread nD τ) M1 fullShare y
            ∗ owns (c : Thread nD τ) M2 fullShare (outBlock x y)) -∗ K ⟨⟩))
      ⊢ wp frame (wpE (defs₀ (F := F)) Variants.none c none) Set.univ
          (cc0__topr_kernel i M0 h0 M1 h1 M2 h2) K := by
  simp only [cc0__topr_kernel_eq_skeleton]; unfold cc0__topr_kernel_skel
  unfold owns
  iintro ⟨⟨%f0, %e0, H0⟩, ⟨%f1, %e1, H1⟩, ⟨%d2, %f2, -, H2⟩, Hk⟩
  sl_exec
  rw [loop_pure]
  sl_exec
  sl_step
  iapply Hk
  isplitl [H0]
  · iexists _; isplitr; swap; · iexact H0
    ipureintro; exact e0
  isplitl [H1]
  · iexists _; isplitr; swap; · iexact H1
    ipureintro; exact e1
  iexists _; isplitr; swap; · iexact H2
  ipureintro
  refine (View.read_writes_full M2.view f2 _ _ []).trans ?_
  have r0 := (View.readAt_full M0.view f0 (off := ![0, 0, 0]) (by decide)).trans e0
  have r1 := (View.readAt_full M1.view f1 (off := ![0, 0, 0]) (by decide)).trans e1
  unfold outBlock sums
  rw [← r0, ← r1]
  rfl

variable (m : (ℓ : Loc nD τ sig) → Buf (Elt F) ℓ) (ρ : Dev nD → PrngReg)

/-- The pipeline's data: each array as the launch finds it, each input block left as read, the result block the body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d)))
/-- What the body leaves at point `t`. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (outBlock (iblk m c 0 t) (iblk m c 1 t)))

/-- The body at point `t`: from its inputs fetched and its result block at anything to the result block computed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, HO, ⟨%d0, H0⟩, ⟨%d1, H1⟩, ⟨%d2, H2⟩⟩
  rw [before0_0_of m (dats m 0 c) rfl (fun _ => rfl) t d0, before0_1_of m (dats m 0 c) rfl (fun _ => rfl) t d1]
  iapply (kernelRun c _ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [HO]; · iexact HO
  isplitl [H0]; · iexact H0
  isplitl [H1]; · iexact H1
  iexact H2

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The pipeline's obligation on the body. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- From any memory with zero counters every execution terminates; every final state has each window's array as the data
    says, every other unscoped buffer as at launch and every semaphore counter at zero. -/
theorem run_main :
    θ_run defs (onTc (τ := τ) (main (F := F))) (s₀ m ρ)
      (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

end Cert.KernelIdeal.Hand

end
-- ==== Proof.Ideal.Frames.lean ====
/-
  The frame claims of the three programs and the statement of what the ideal pass rewrote.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Ideal.Body
public import proofs.«01_k».proof.Proof.Printed.Body
public import Idealize.ShloMosaic.Lib.Quiescent

@[expose] public section

noncomputable section

namespace Cert.Frames

open Idealize.ShloMosaic Idealize.ShloMosaic.TcCoe Idealize.SL.Sem

/-- The printed kernel runs, leaves its arguments unchanged and every counter at zero. -/
theorem kernel : Cert.quiescent_Kernel := fun m ρ _ =>
  (θ_run Cert.Kernel.defs _ _).mono (fun _ h => ⟨fun c =>
      ⟨((h.1 c).1 0).trans ((Cert.Kernel.Hand.dats m 0 c).arrAt_in 0 rfl _),
        ((h.1 c).1 1).trans ((Cert.Kernel.Hand.dats m 0 c).arrAt_in 1 rfl _)⟩, h.2⟩)
    (Cert.Kernel.Hand.run_main m ρ)

/-- The idealized kernel runs, leaves its arguments unchanged and every counter at zero. -/
theorem kernelIdeal : Cert.quiescent_KernelIdeal := fun m ρ _ =>
  (θ_run Cert.KernelIdeal.defs _ _).mono (fun _ h => ⟨fun c =>
      ⟨((h.1 c).1 0).trans ((Cert.KernelIdeal.Hand.dats m 0 c).arrAt_in 0 rfl _),
        ((h.1 c).1 1).trans ((Cert.KernelIdeal.Hand.dats m 0 c).arrAt_in 1 rfl _)⟩, h.2⟩)
    (Cert.KernelIdeal.Hand.run_main m ρ)

/-- The idealized reference runs, leaves its arguments unchanged and every counter at zero. -/
theorem referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The ideal pass rewrote nothing. -/
theorem preserves : Cert.preserves_Kernel_KernelIdeal := trivial

end Cert.Frames

end
-- ==== Proof.Column.Cut.lean ====
/-
  The cut of a sorted column, over the reals: a threshold on the values and a bound on the running sum of the sorted values
  keep the same entries when the least kept value and the greatest dropped one are separated.
-/
module

public import Mathlib.Algebra.BigOperators.Fin
public import Mathlib.Algebra.Order.BigOperators.Group.Finset
public import Mathlib.Data.Real.Basic
public import Mathlib.Tactic.Linarith
public import Mathlib.Tactic.Positivity

@[expose] public section

namespace Cert.Column

variable {n : ℕ}

/-- Of a decreasing positive column `q`: an entry is above the threshold `τ` exactly when it is the first one or the sum of
    the entries before it is below `r`, provided the entries above `τ` sum to at least `r`, those above a slightly greater
    `τ'` to less than `r`, and a kept entry exceeds a dropped one by the factor `c` that bounds `τ' / τ`. -/
theorem above_iff_kept (q : Fin n → ℝ) (hq : Antitone q) (pos : ∀ i, 0 < q i) (r κ τ τ' c : ℝ) (hr : 0 < r)
    (hκ : κ < τ) (hτ0 : 0 < τ) (hc : τ' ≤ τ * c) (hc1 : 1 ≤ c)
    (hge : r ≤ ∑ i, if τ < q i then q i else 0)
    (hlt : (∑ i, if τ' < q i then q i else 0) < r)
    (sep : ∀ i i' : Fin n, (i.val = 0 ∨ (∑ k, if k < i then q k else 0) < r) →
      ¬ (i'.val = 0 ∨ (∑ k, if k < i' then q k else 0) < r) → κ < q i → q i' * c ≤ q i)
    (i : Fin n) : τ < q i ↔ (i.val = 0 ∨ (∑ k, if k < i then q k else 0) < r) := by
  constructor
  · intro hi
    by_contra hk
    -- the least dropped position
    have hex : ∃ a : ℕ, ∃ h : a < n, ¬ ((⟨a, h⟩ : Fin n).val = 0 ∨ (∑ k, if k < (⟨a, h⟩ : Fin n) then q k else 0) < r) :=
      ⟨i.val, i.isLt, hk⟩
    classical
    obtain ⟨ha, hna⟩ := Nat.find_spec hex
    have hmin := fun b (hb : b < Nat.find hex) => Nat.find_min hex hb
    have hle : Nat.find hex ≤ i.val := Nat.find_min' hex ⟨i.isLt, hk⟩
    generalize Nat.find hex = a at ha hna hmin hle
    rw [not_or, not_lt] at hna
    obtain ⟨ha0, hsum⟩ := hna
    have ha0' : a ≠ 0 := ha0
    obtain ⟨b, rfl⟩ : ∃ b, a = b + 1 := ⟨a - 1, by omega⟩
    have hbn : b < n := by omega
    have hkb : (⟨b, hbn⟩ : Fin n).val = 0 ∨ (∑ k, if k < (⟨b, hbn⟩ : Fin n) then q k else 0) < r := by
      have := hmin b (by omega)
      push Not at this
      exact this hbn
    have hqb : q i ≤ q ⟨b, hbn⟩ := hq (by rw [Fin.le_def]; show b ≤ i.val; omega)
    have hs := sep ⟨b, hbn⟩ i hkb hk (by linarith)
    have hbig : τ' < q ⟨b, hbn⟩ := by
      have h2 : τ * c < q i * c := by nlinarith
      linarith
    have : (∑ k, if k < (⟨b + 1, ha⟩ : Fin n) then q k else 0) ≤ ∑ k, if τ' < q k then q k else 0 := by
      refine Finset.sum_le_sum fun k _ => ?_
      split_ifs with h1 h2 h2
      · exact le_rfl
      · exact absurd (lt_of_lt_of_le hbig (hq (by rw [Fin.le_def]; rw [Fin.lt_def] at h1; exact Nat.le_of_lt_succ h1))) h2
      · exact (pos k).le
      · exact le_rfl
    linarith
  · intro hk
    by_contra hi
    rw [not_lt] at hi
    -- every entry above the threshold precedes `i`
    have hsub : (∑ k, if τ < q k then q k else 0) ≤ ∑ k, if k < i then q k else 0 := by
      refine Finset.sum_le_sum fun k _ => ?_
      split_ifs with h1 h2 h2
      · exact le_rfl
      · exact absurd (hq (not_lt.mp h2)) (by linarith)
      · exact (pos k).le
      · exact le_rfl
    rcases hk with h0 | hk
    · have : (∑ k, if k < i then q k else 0) = 0 := by
        refine Finset.sum_eq_zero fun k _ => ?_
        rw [if_neg]
        rw [Fin.lt_def]; omega
      linarith
    · linarith

end Cert.Column
-- ==== Proof.Column.Words.lean ====
/-
  The values of the words the kernel bisects on, and of the literals of the programs, as extended reals.
-/
module

public import Idealize.ShloMosaic.PureOps.Ideal
public import Idealize.ShloMosaic.PureOps.Ideal.Laws
public import Idealize.ShloMosaic.Lib.IdealHost
public import Mathlib.Analysis.SpecialFunctions.Exp
public import Mathlib.Tactic.Linarith
public import Mathlib.Tactic.Positivity
public import Mathlib.Tactic.NormNum
public import Mathlib.Tactic.Ring

@[expose] public section

noncomputable section

namespace Cert.Column

open Idealize.ShloMosaic

/-- The real number that a positive word `w` denotes, its exponent field `w / 2^23` and its fraction `w % 2^23`. -/
def wordVal (w : ℕ) : ℝ := ((2 ^ 23 + w % 2 ^ 23 : ℕ) : ℝ) * (2 : ℝ) ^ (((w / 2 ^ 23 : ℕ) : ℤ) - 150)

/-- The least and the greatest word of the search. -/
abbrev wLo : ℕ := 931928737
abbrev wHi : ℕ := 1065353216

/-- A word in the search's range denotes its `wordVal`. -/
theorem ofBits_word (b : BitVec 32) (h0 : wLo ≤ b.toNat) (h1 : b.toNat ≤ wHi) :
    Ideal.ofBits .f32 b = ((wordVal b.toNat : ℝ) : EReal) := by
  unfold wLo at h0
  unfold wHi at h1
  have e1 : (b.extractLsb' 31 1 == 1#1) = false := by
    rw [beq_eq_false_iff_ne]
    intro h
    have := congrArg BitVec.toNat h
    rw [BitVec.extractLsb'_toNat, Nat.shiftRight_eq_div_pow] at this
    simp at this
    omega
  have e2 : (b.extractLsb' 23 8).toNat = b.toNat / 2 ^ 23 := by
    rw [BitVec.extractLsb'_toNat, Nat.shiftRight_eq_div_pow, Nat.mod_eq_of_lt]; omega
  have e3 : (b.extractLsb' 0 23).toNat = b.toNat % 2 ^ 23 := by
    rw [BitVec.extractLsb'_toNat]; rfl
  show Ideal.ieee 8 23 b = _
  unfold Ideal.ieee wordVal
  dsimp only
  rw [show 8 + 23 = 31 from rfl, e1, e2, e3, if_neg (by omega), if_neg (by omega)]
  congr 1
  rw [if_neg Bool.false_ne_true, one_mul]
  congr 2
  norm_num
  ring

theorem wordVal_pos (w : ℕ) : 0 < wordVal w := by
  unfold wordVal
  positivity

/-- One word on, the value grows by at most the factor `1 + 2^-23`. -/
theorem wordVal_succ (w : ℕ) : wordVal (w + 1) ≤ wordVal w * (1 + 1 / 2 ^ 23) := by
  unfold wordVal
  have hp : (0 : ℝ) < (2 : ℝ) ^ (((w / 2 ^ 23 : ℕ) : ℤ) - 150) := by positivity
  have hm : (0 : ℝ) ≤ ((w % 2 ^ 23 : ℕ) : ℝ) := Nat.cast_nonneg _
  by_cases hc : w % 2 ^ 23 + 1 < 2 ^ 23
  · have e1 : (w + 1) % 2 ^ 23 = w % 2 ^ 23 + 1 := by omega
    have e2 : (w + 1) / 2 ^ 23 = w / 2 ^ 23 := by omega
    rw [e1, e2]
    push_cast at *
    rw [mul_right_comm]
    refine mul_le_mul_of_nonneg_right ?_ hp.le
    nlinarith
  · have e1 : (w + 1) % 2 ^ 23 = 0 := by omega
    have e2 : (w + 1) / 2 ^ 23 = w / 2 ^ 23 + 1 := by omega
    have e3 : w % 2 ^ 23 = 2 ^ 23 - 1 := by omega
    rw [e1, e2, e3]
    rw [show (((w / 2 ^ 23 + 1 : ℕ) : ℤ) - 150) = (((w / 2 ^ 23 : ℕ) : ℤ) - 150) + 1 by push_cast; ring,
      zpow_add_one₀ (by norm_num)]
    rw [mul_right_comm, mul_comm _ (2 : ℝ), ← mul_assoc]
    refine mul_le_mul_of_nonneg_right ?_ hp.le
    norm_num

/-- One word on, the value grows by at most the factor `exp (2^-23)`. -/
theorem wordVal_succ_exp (w : ℕ) : wordVal (w + 1) ≤ wordVal w * Real.exp (1 / 2 ^ 23) := by
  refine (wordVal_succ w).trans (mul_le_mul_of_nonneg_left ?_ (wordVal_pos w).le)
  have := Real.add_one_le_exp (1 / 2 ^ 23 : ℝ)
  linarith

/-- The greatest word is one. -/
theorem wordVal_hi : wordVal wHi = 1 := by
  unfold wordVal wHi
  norm_num

/-- The least word is small. -/
theorem wordVal_lo : wordVal wLo ≤ 17 / 1000000 := by
  unfold wordVal wLo
  norm_num

/-- Every word of the search is at least `2^-16`. -/
theorem wordVal_ge (w : ℕ) (h : wLo ≤ w) : (1 : ℝ) / 2 ^ 16 ≤ wordVal w := by
  unfold wordVal
  unfold wLo at h
  have h1 : (111 : ℕ) ≤ w / 2 ^ 23 := by omega
  have h2 : (2 : ℝ) ^ (-39 : ℤ) ≤ (2 : ℝ) ^ (((w / 2 ^ 23 : ℕ) : ℤ) - 150) :=
    zpow_le_zpow_right₀ (by norm_num) (by omega)
  have h3 : ((2 ^ 23 : ℕ) : ℝ) ≤ ((2 ^ 23 + w % 2 ^ 23 : ℕ) : ℝ) := by exact_mod_cast Nat.le_add_right _ _
  calc (1 : ℝ) / 2 ^ 16 = ((2 ^ 23 : ℕ) : ℝ) * (2 : ℝ) ^ (-39 : ℤ) := by norm_num
    _ ≤ _ := mul_le_mul h3 h2 (by positivity) (by positivity)

/-- The least log-probability's probability is far below every threshold of the search. -/
theorem exp_floor : Real.exp (-70) < 1 / 2 ^ 16 / 2887 := by
  have h1 : (2 : ℝ) ≤ Real.exp 1 := by have := Real.add_one_le_exp (1 : ℝ); linarith
  have h2 : (2 : ℝ) ^ 70 ≤ Real.exp 70 := by
    have : Real.exp 70 = Real.exp 1 ^ 70 := by rw [← Real.exp_nat_mul]; norm_num
    rw [this]
    exact pow_le_pow_left₀ (by norm_num) h1 _
  rw [Real.exp_neg]
  calc (Real.exp 70)⁻¹ ≤ ((2 : ℝ) ^ 70)⁻¹ := inv_anti₀ (by positivity) h2
    _ < _ := by norm_num

/-- The truncation rate as a real. -/
def rate : ℝ := 14428406 / 2 ^ 24

/-- The literals of the programs. -/
theorem ofBits_rate : Ideal.ofBits .f32 0x3F5C28F6#32 = ((rate : ℝ) : EReal) := by
  unfold rate
  simp [Ideal.ofBits, Ideal.ieee, -EReal.coe_mul]; norm_num
theorem ofBits_floor : Ideal.ofBits .f32 0xC28C0000#32 = ((-70 : ℝ) : EReal) := by
  simp [Ideal.ofBits, Ideal.ieee, -EReal.coe_mul, -EReal.coe_neg]; norm_num
theorem ofBits_gap : Ideal.ofBits .f32 0x34000000#32 = ((1 / 2 ^ 23 : ℝ) : EReal) := by
  simp [Ideal.ofBits, Ideal.ieee, -EReal.coe_mul]; norm_num
theorem ofBits_top : Ideal.ofBits .f32 0x7F800000#32 = ⊤ := by
  simp [Ideal.ofBits, Ideal.ieee]
theorem ofBits_bot : Ideal.ofBits .f32 0xFF800000#32 = ⊥ := by
  simp [Ideal.ofBits, Ideal.ieee]
theorem ofBits_zero : Ideal.ofBits .f32 0x00000000#32 = 0 := Ideal.ofBits_zero_f32
theorem ofBits_one : Ideal.ofBits .f32 0x3F800000#32 = 1 := Ideal.ofBits_one_f32

end Cert.Column
-- ==== Proof.Column.Threshold.lean ====
/-
  A column over the reals: the exponentials `e`, their sum `s`, and the probabilities floored at `exp (-70)`. The threshold
  the bisection ends with keeps exactly the entries that the running sum of the sorted probabilities keeps.
-/
module

public import proofs.«01_k».proof.Proof.Column.Cut
public import proofs.«01_k».proof.Proof.Column.Words
public import Mathlib.Algebra.BigOperators.Group.Finset.Basic
public import Mathlib.Algebra.BigOperators.Field
public import Mathlib.Tactic.FieldSimp

@[expose] public section

noncomputable section

namespace Cert.Column

variable {n : ℕ}

/-- The sum of the entries above `t`. -/
def massR (e : Fin n → ℝ) (t : ℝ) : ℝ := ∑ k, if t < e k then e k else 0

theorem rate_pos : 0 < rate := by unfold rate; norm_num

/-- The sum of a column whose entries lie in `[0, 1]` and one of which is one lies between one and the number of entries. -/
theorem sum_bounds (e : Fin n → ℝ) (h0 : ∀ k, 0 ≤ e k) (h1 : ∀ k, e k ≤ 1) (k0 : Fin n) (hk : e k0 = 1) :
    1 ≤ ∑ k, e k ∧ ∑ k, e k ≤ n := by
  constructor
  · rw [← hk]
    exact Finset.single_le_sum (f := e) (fun k _ => h0 k) (Finset.mem_univ k0)
  · calc ∑ k, e k ≤ ∑ _k : Fin n, (1 : ℝ) := Finset.sum_le_sum fun k _ => h1 k
      _ = n := by simp

/-- Above the least word of the search lies at least the rate of the whole. -/
theorem mass_lo (hn : n ≤ 2887) (e : Fin n → ℝ) (hs : 1 ≤ ∑ k, e k) :
    rate * (∑ k, e k) ≤ massR e (wordVal wLo) := by
  have h : ∑ k, e k ≤ massR e (wordVal wLo) + ∑ _k : Fin n, wordVal wLo := by
    unfold massR
    rw [← Finset.sum_add_distrib]
    refine Finset.sum_le_sum fun k _ => ?_
    have := wordVal_pos wLo
    split_ifs with hc
    · linarith
    · linarith
  have h2 : ∑ _k : Fin n, wordVal wLo = n * wordVal wLo := by simp
  have h3 : (n : ℝ) * wordVal wLo ≤ 2887 * (17 / 1000000) :=
    mul_le_mul (by exact_mod_cast hn) wordVal_lo (wordVal_pos _).le (by norm_num)
  rw [h2] at h
  have h4 : rate ≤ 9 / 10 := by unfold rate; norm_num
  nlinarith

/-- Nothing lies above the greatest word of the search. -/
theorem mass_hi (e : Fin n → ℝ) (h1 : ∀ k, e k ≤ 1) (hs : 1 ≤ ∑ k, e k) :
    massR e (wordVal wHi) < rate * (∑ k, e k) := by
  have : massR e (wordVal wHi) = 0 := by
    unfold massR
    refine Finset.sum_eq_zero fun k _ => if_neg ?_
    rw [wordVal_hi]
    exact not_lt.mpr (h1 k)
  rw [this]
  have := rate_pos
  positivity

/-- A position of the sorted column is kept: it is the first or the probabilities before it sum to less than the rate. -/
def keptAt (q : Fin n → ℝ) (i : Fin n) : Prop := i.val = 0 ∨ (∑ k, if k < i then q k else 0) < rate

/-- The threshold at a word `w` where the mass is at least the rate while it is below the rate one word on keeps exactly the
    entries that the running sum keeps, when every kept probability above the floor exceeds every dropped one by the factor
    `exp (2^-23)`. -/
theorem threshold_iff_kept (hn : n ≤ 2887) (e : Fin n → ℝ) (h0 : ∀ k, 0 ≤ e k) (h1 : ∀ k, e k ≤ 1) (k0 : Fin n)
    (hk : e k0 = 1) (w : ℕ) (hw : wLo ≤ w)
    (hge : rate * (∑ k, e k) ≤ massR e (wordVal w)) (hlt : massR e (wordVal (w + 1)) < rate * (∑ k, e k))
    (p : Fin n → ℝ) (hp : ∀ k, p k = max (Real.exp (-70)) (e k / ∑ k, e k))
    (σ : Equiv.Perm (Fin n)) (hσ : Antitone (p ∘ σ))
    (sep : ∀ i i' : Fin n, keptAt (p ∘ σ) i → ¬ keptAt (p ∘ σ) i' → Real.exp (-70) < p (σ i) →
      p (σ i') * Real.exp (1 / 2 ^ 23) ≤ p (σ i)) (i : Fin n) :
    wordVal w < e (σ i) ↔ keptAt (p ∘ σ) i := by
  obtain ⟨hs1, hs2⟩ := sum_bounds e h0 h1 k0 hk
  generalize hS : (∑ k, e k) = S at *
  have hn' : (n : ℝ) ≤ 2887 := by exact_mod_cast hn
  have hSp : 0 < S := by linarith
  -- every word's threshold is above the floor
  have hfl : ∀ u, wLo ≤ u → Real.exp (-70) < wordVal u / S := by
    intro u hu
    refine exp_floor.trans_le ?_
    rw [div_le_div_iff₀ (by norm_num) hSp]
    have := wordVal_ge u hu
    nlinarith
  have hiff : ∀ u, wLo ≤ u → ∀ k, (wordVal u / S < p k ↔ wordVal u < e k) := by
    intro u hu k
    rw [hp k, lt_max_iff, div_lt_div_iff_of_pos_right hSp]
    exact ⟨fun h => h.elim (fun h => absurd h (not_lt.mpr (hfl u hu).le)) id, Or.inr⟩
  have hsum : ∀ u, wLo ≤ u → (∑ i, if wordVal u / S < (p ∘ σ) i then (p ∘ σ) i else 0) = massR e (wordVal u) / S := by
    intro u hu
    rw [show (∑ i, if wordVal u / S < (p ∘ σ) i then (p ∘ σ) i else 0) = ∑ k, if wordVal u / S < p k then p k else 0 from
      Equiv.sum_comp σ fun k => if wordVal u / S < p k then p k else 0]
    unfold massR
    rw [Finset.sum_div]
    refine Finset.sum_congr rfl fun k _ => ?_
    by_cases hc : wordVal u < e k
    · rw [if_pos hc, if_pos ((hiff u hu k).mpr hc), hp k, max_eq_right]
      have := hfl u hu
      have h2 : wordVal u / S < e k / S := (div_lt_div_iff_of_pos_right hSp).mpr hc
      linarith
    · rw [if_neg hc, if_neg (fun h => hc ((hiff u hu k).mp h)), zero_div]
  rw [← hiff w hw (σ i)]
  refine above_iff_kept (p ∘ σ) hσ (fun i => ?_) rate (Real.exp (-70)) (wordVal w / S) (wordVal (w + 1) / S)
    (Real.exp (1 / 2 ^ 23)) rate_pos (hfl w hw) (div_pos (wordVal_pos w) hSp) ?_ ?_ ?_ ?_ sep i
  · show 0 < p (σ i)
    rw [hp]
    exact lt_max_of_lt_left (Real.exp_pos _)
  · rw [div_mul_eq_mul_div]
    exact div_le_div_of_nonneg_right (wordVal_succ_exp w) hSp.le
  · exact Real.one_le_exp (by positivity)
  · rw [hsum w hw, le_div_iff₀ hSp]
    exact hge
  · rw [hsum (w + 1) (by omega), div_lt_iff₀ hSp]
    exact hlt

end Cert.Column
-- ==== Proof.Column.Search.lean ====
/-
  The bisection on words: after 27 halvings of the search's range the two ends are adjacent, the predicate fails at the lower
  one and holds at the upper one.
-/
module

public import Idealize.ShloMosaic.PureOps.Vector
public import Mathlib.Logic.Function.Iterate
public import Mathlib.Tactic.Linarith

@[expose] public section

namespace Cert.Column

open Idealize.ShloMosaic

/-- The word halfway between two ends, as the kernel computes it. -/
def midWord (lo hi : BitVec 32) : BitVec 32 := IntOp.addi lo (IntOp.shrui .vector (IntOp.subi hi lo) 1#32)

/-- One halving: where the predicate holds of the middle it becomes the upper end, else the lower one. -/
def halve (P : BitVec 32 → BitVec 1) (s : BitVec 32 × BitVec 32) : BitVec 32 × BitVec 32 :=
  (Scalar.select (P (midWord s.1 s.2)) s.1 (midWord s.1 s.2), Scalar.select (P (midWord s.1 s.2)) (midWord s.1 s.2) s.2)

/-- The middle of ordered ends, as a number. -/
theorem midWord_toNat (lo hi : BitVec 32) (h : lo.toNat ≤ hi.toNat) :
    (midWord lo hi).toNat = lo.toNat + (hi.toNat - lo.toNat) / 2 := by
  have hl := lo.isLt
  have hh := hi.isLt
  have e1 : (hi - lo).toNat = hi.toNat - lo.toNat := BitVec.toNat_sub_of_le (by rwa [BitVec.le_def])
  have e2 : IntOp.shrui .vector (IntOp.subi hi lo) 1#32 = (hi - lo) >>> (1#32 : BitVec 32) := by
    show (if (1#32 : BitVec 32).toNat < 32 then (hi - lo) >>> (1#32 : BitVec 32) else _) = _
    rw [if_pos (by decide)]
  unfold midWord
  rw [e2]
  show (lo + (hi - lo) >>> (1#32 : BitVec 32)).toNat = _
  rw [BitVec.toNat_add, BitVec.ushiftRight_eq', BitVec.toNat_ushiftRight, e1, Nat.shiftRight_eq_div_pow]
  have : (1#32 : BitVec 32).toNat = 1 := rfl
  rw [this, Nat.mod_eq_of_lt] <;> omega

/-- After `k` halvings of a range of at most `2^(k + j)` words: the ends are ordered and inside the range, at most `2^j` apart,
    and where the predicate failed at the lower end and held at the upper one it still does. -/
theorem halve_iterate (P : BitVec 32 → BitVec 1) (k : ℕ) : ∀ (j : ℕ) (s : BitVec 32 × BitVec 32), s.1.toNat ≤ s.2.toNat →
    s.2.toNat - s.1.toNat ≤ 2 ^ (k + j) →
    s.1.toNat ≤ ((halve P)^[k] s).1.toNat ∧ ((halve P)^[k] s).1.toNat ≤ ((halve P)^[k] s).2.toNat
      ∧ ((halve P)^[k] s).2.toNat ≤ s.2.toNat ∧ ((halve P)^[k] s).2.toNat - ((halve P)^[k] s).1.toNat ≤ 2 ^ j
      ∧ (P s.1 ≠ 1 → P s.2 = 1 → P ((halve P)^[k] s).1 ≠ 1 ∧ P ((halve P)^[k] s).2 = 1) := by
  induction k with
  | zero =>
    intro j s h hd
    rw [Nat.zero_add] at hd
    exact ⟨le_rfl, h, le_rfl, hd, fun a b => ⟨a, b⟩⟩
  | succ k ih =>
    intro j s h hd
    have hm := midWord_toNat s.1 s.2 h
    have hp : 2 ^ (k + 1 + j) = 2 * 2 ^ (k + j) := by rw [show k + 1 + j = (k + j) + 1 by omega, pow_succ]; omega
    rw [hp] at hd
    have h2 : 0 < 2 ^ (k + j) := Nat.two_pow_pos _
    rw [Function.iterate_succ_apply]
    have hs : (P (midWord s.1 s.2) = 1 ∧ halve P s = (s.1, midWord s.1 s.2))
        ∨ (P (midWord s.1 s.2) ≠ 1 ∧ halve P s = (midWord s.1 s.2, s.2)) := by
      by_cases hc : P (midWord s.1 s.2) = 1
      · left; refine ⟨hc, ?_⟩; unfold halve Scalar.select; rw [if_pos hc, if_pos hc]
      · right; refine ⟨hc, ?_⟩; unfold halve Scalar.select; rw [if_neg hc, if_neg hc]
    rcases hs with ⟨hc, e⟩ | ⟨hc, e⟩
    · rw [e]
      obtain ⟨a, b, c, d, f⟩ := ih j (s.1, midWord s.1 s.2) (by dsimp only; omega) (by dsimp only; omega)
      dsimp only at a c f
      exact ⟨a, b, by omega, d, fun g _ => f g hc⟩
    · rw [e]
      obtain ⟨a, b, c, d, f⟩ := ih j (midWord s.1 s.2, s.2) (by dsimp only; omega) (by dsimp only; omega)
      dsimp only at a c f
      exact ⟨by omega, b, c, d, fun _ g => f hc g⟩

/-- The search's ends after its 27 halvings. -/
theorem search_range (P : BitVec 32 → BitVec 1) :
    931928737 ≤ ((halve P)^[27] (931928737#32, 1065353216#32)).1.toNat
      ∧ ((halve P)^[27] (931928737#32, 1065353216#32)).1.toNat ≤ 1065353216 := by
  obtain ⟨a, b, c, -, -⟩ := halve_iterate P 27 0 (931928737#32, 1065353216#32) (by decide) (by decide)
  exact ⟨a, b.trans c⟩

/-- Where the predicate fails at the least word and holds at the greatest, the search ends at two adjacent words, failing at
    the lower and holding at the upper. -/
theorem search_adjacent (P : BitVec 32 → BitVec 1) (h0 : P 931928737#32 ≠ 1) (h1 : P 1065353216#32 = 1) :
    ∃ hi : BitVec 32, hi.toNat = ((halve P)^[27] (931928737#32, 1065353216#32)).1.toNat + 1 ∧ hi.toNat ≤ 1065353216
      ∧ P ((halve P)^[27] (931928737#32, 1065353216#32)).1 ≠ 1 ∧ P hi = 1 := by
  obtain ⟨a, b, c, d, e⟩ := halve_iterate P 27 0 (931928737#32, 1065353216#32) (by decide) (by decide)
  obtain ⟨e1, e2⟩ := e h0 h1
  refine ⟨((halve P)^[27] (931928737#32, 1065353216#32)).2, ?_, c, e1, e2⟩
  have hne : ((halve P)^[27] (931928737#32, 1065353216#32)).1.toNat ≠ ((halve P)^[27] (931928737#32, 1065353216#32)).2.toNat := by
    intro h
    rw [BitVec.toNat_inj] at h
    rw [h] at e1
    exact e1 e2
  rw [pow_zero] at d
  omega

end Cert.Column
-- ==== Proof.Column.Extended.lean ====
/-
  A column over the extended reals: what the kernel leaves at each of its entries and what the reference leaves there, and
  that the two agree where the least kept and the greatest dropped log-probability are separated.
-/
module

public import proofs.«01_k».proof.Proof.Column.Threshold
public import proofs.«01_k».proof.Proof.Column.Search
public import Mathlib.Data.Finset.Lattice.Fold
public import Mathlib.Analysis.SpecialFunctions.Log.Basic

@[expose] public section

noncomputable section

namespace Cert.Column

open Idealize.ShloMosaic

variable {n : ℕ}

/-- The least log-probability, as an extended real. -/
abbrev floor70 : EReal := ((-70 : ℝ) : EReal)

/-- The column's greatest entry. -/
def top (g : Fin n → EReal) : EReal := Finset.univ.fold max ⊥ g
/-- The exponentials of the column below its greatest entry. -/
def expo (g : Fin n → EReal) (k : Fin n) : EReal := Ideal.exp (g k - top g)
/-- Their sum. -/
def total (g : Fin n → EReal) : EReal := ∑ k, expo g k
/-- The kernel's log-probability. -/
def kval (g : Fin n → EReal) (k : Fin n) : EReal := min 0 (max floor70 (g k - (top g + Ideal.log (total g))))
/-- The kernel's sum of the exponentials above a threshold. -/
def kmass (g : Fin n → EReal) (t : EReal) : EReal := ∑ k, Scalar.select (Ideal.cmp .ogt (expo g k) t) (expo g k) 0
/-- The kernel's test of a word: whether the sum above it is below the rate. -/
def below (g : Fin n → EReal) (w : BitVec 32) : BitVec 1 :=
  Ideal.cmp .olt (kmass g (Ideal.ofBits .f32 w)) ((rate : EReal) * total g)
/-- The word the kernel's search ends with. -/
def lastWord (g : Fin n → EReal) : BitVec 32 := ((halve (below g))^[27] (931928737#32, 1065353216#32)).1
/-- What the kernel leaves at entry `k`. -/
def kout (g : Fin n → EReal) (k : Fin n) : EReal :=
  Scalar.select (Ideal.cmp .ogt (expo g k) (Ideal.ofBits .f32 (lastWord g))) (kval g k) floor70

/-- The reference's shift: the greatest entry, or zero where that is infinite. -/
def rshift (g : Fin n → EReal) : EReal := Scalar.select (Ideal.cmp .olt (max (top g) (-top g)) ⊤) (top g) 0
/-- The reference's log-probability. -/
def rval (g : Fin n → EReal) (k : Fin n) : EReal :=
  min 0 (max floor70 (g k - (Ideal.log (∑ k, Ideal.exp (g k - rshift g)) + rshift g)))

/-! ## Small facts -/

/-- A finite sum of reals, read as extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem select_ofBool {α : Type} (p : Prop) [Decidable p] (a b : α) :
    Scalar.select (BitVec.ofBool (decide p)) a b = if p then a else b := by
  unfold Scalar.select
  by_cases h : p
  · rw [if_pos h, decide_eq_true h]; rfl
  · rw [if_neg h, decide_eq_false h]; rfl

theorem select_ogt {α : Type} (x y : EReal) (a b : α) : Scalar.select (Ideal.cmp .ogt x y) a b = if y < x then a else b :=
  select_ofBool (y < x) a b

theorem select_olt {α : Type} (x y : EReal) (a b : α) : Scalar.select (Ideal.cmp .olt x y) a b = if x < y then a else b :=
  select_ofBool (x < y) a b

theorem ofBool_eq_one (p : Prop) [Decidable p] : BitVec.ofBool (decide p) = 1 ↔ p := by
  by_cases h : p
  · rw [decide_eq_true h]; exact ⟨fun _ => h, fun _ => rfl⟩
  · rw [decide_eq_false h]; exact ⟨fun e => absurd e (by decide), fun e => absurd e h⟩

theorem olt_eq_one (x y : EReal) : Ideal.cmp .olt x y = 1 ↔ x < y := ofBool_eq_one (x < y)

theorem le_top (g : Fin n → EReal) (k : Fin n) : g k ≤ top g := Finset.le_sup (f := g) (Finset.mem_univ k)

theorem exists_top (hn : 0 < n) (g : Fin n → EReal) : ∃ k, g k = top g := by
  obtain ⟨k, -, h⟩ := Finset.exists_mem_eq_sup (Finset.univ : Finset (Fin n)) ⟨⟨0, hn⟩, Finset.mem_univ _⟩ g
  exact ⟨k, h.symm⟩

theorem exp_nonneg (x : EReal) : 0 ≤ Ideal.exp x := by
  induction x with
  | bot => exact le_rfl
  | top => exact _root_.le_top
  | coe r => exact EReal.coe_nonneg.mpr (Real.exp_pos r).le

/-- A log-probability clipped from nothing is the floor. -/
theorem clip_bot : min 0 (max floor70 ⊥) = floor70 := by
  rw [max_eq_left bot_le, min_eq_right]
  exact EReal.coe_nonpos.mpr (by norm_num)

/-- The last word's value is positive. -/
theorem lastWord_val (g : Fin n → EReal) : Ideal.ofBits .f32 (lastWord g) = ((wordVal (lastWord g).toNat : ℝ) : EReal) :=
  ofBits_word _ (search_range (below g)).1 (search_range (below g)).2

/-! ## An infinite greatest entry -/

/-- Where the greatest entry is infinite the kernel keeps nothing. -/
theorem kout_of_expo_zero (g : Fin n → EReal) (k : Fin n) (h : expo g k = 0) : kout g k = floor70 := by
  unfold kout
  rw [select_ogt, h, lastWord_val, if_neg]
  rw [not_lt]
  exact EReal.coe_nonneg.mpr (wordVal_pos _).le

theorem expo_of_top (g : Fin n → EReal) (h : top g = ⊤) (k : Fin n) : expo g k = 0 := by
  unfold expo
  rw [h, EReal.sub_top]; rfl

theorem expo_of_bot (g : Fin n → EReal) (h : top g = ⊥) (k : Fin n) : expo g k = 0 := by
  unfold expo
  have : g k = ⊥ := le_bot_iff.mp ((le_top g k).trans h.le)
  rw [this, EReal.bot_sub]; rfl

theorem rshift_of_inf (g : Fin n → EReal) (h : top g = ⊤ ∨ top g = ⊥) : rshift g = 0 := by
  unfold rshift
  rw [select_olt, if_neg]
  rcases h with h | h <;> rw [h] <;> simp

theorem rval_of_top (hn : 0 < n) (g : Fin n → EReal) (h : top g = ⊤) (k : Fin n) : rval g k = floor70 := by
  unfold rval
  rw [rshift_of_inf g (Or.inl h)]
  obtain ⟨k0, hk0⟩ := exists_top hn g
  have hs : ∑ k, Ideal.exp (g k - 0) = ⊤ := by
    rw [← top_le_iff]
    calc (⊤ : EReal) = Ideal.exp (g k0 - 0) := by rw [hk0, h, sub_zero]; rfl
      _ ≤ _ := Finset.single_le_sum (f := fun k => Ideal.exp (g k - 0)) (fun k _ => exp_nonneg _) (Finset.mem_univ k0)
  rw [hs, add_zero]
  show min 0 (max floor70 (g k - ⊤)) = _
  rw [EReal.sub_top, clip_bot]

theorem rval_of_bot (g : Fin n → EReal) (h : top g = ⊥) (k : Fin n) : rval g k = floor70 := by
  unfold rval
  have hk : g k = ⊥ := le_bot_iff.mp ((le_top g k).trans h.le)
  rw [hk, EReal.bot_sub, clip_bot]

/-! ## A finite greatest entry -/

/-- The column of a finite greatest entry over the reals: its exponentials `e`, their sum, and the log-probabilities `v`. -/
theorem finite_column (hn : 0 < n) (g : Fin n → EReal) (μ : ℝ) (h : top g = (μ : EReal)) :
    ∃ (e v : Fin n → ℝ) (k0 : Fin n), (∀ k, expo g k = (e k : EReal)) ∧ (∀ k, 0 ≤ e k) ∧ (∀ k, e k ≤ 1) ∧ e k0 = 1
      ∧ total g = ((∑ k, e k : ℝ) : EReal) ∧ (∀ k, kval g k = (v k : EReal)) ∧ (∀ k, rval g k = (v k : EReal))
      ∧ (∀ k, Real.exp (v k) = max (Real.exp (-70)) (e k / ∑ k, e k)) := by
  have hr : rshift g = top g := by
    unfold rshift
    rw [select_olt, if_pos]
    rw [h, max_lt_iff]
    exact ⟨EReal.coe_lt_top _, by rw [← EReal.coe_neg]; exact EReal.coe_lt_top _⟩
  have hkr : ∀ k, rval g k = kval g k := by
    intro k
    unfold rval kval total expo
    rw [hr, add_comm]
  have he : ∀ k, ∃ e : ℝ, expo g k = (e : EReal) ∧ 0 ≤ e ∧ e ≤ 1 ∧ (g k = top g → e = 1)
      ∧ ((g k = ⊥ ∧ e = 0) ∨ ∃ γ : ℝ, g k = (γ : EReal) ∧ γ ≤ μ ∧ e = Real.exp (γ - μ)) := by
    intro k
    have hle := le_top g k
    unfold expo
    rw [h] at hle ⊢
    generalize g k = x at hle
    induction x with
    | bot => exact ⟨0, by rw [EReal.bot_sub]; rfl, le_rfl, zero_le_one, fun e => absurd e (EReal.bot_ne_coe μ), Or.inl ⟨rfl, rfl⟩⟩
    | top => exact absurd hle (not_le.mpr (EReal.coe_lt_top μ))
    | coe γ =>
      have hγ : γ ≤ μ := EReal.coe_le_coe_iff.mp hle
      refine ⟨Real.exp (γ - μ), rfl, (Real.exp_pos _).le, Real.exp_le_one_iff.mpr (by linarith), fun e => ?_,
        Or.inr ⟨γ, rfl, hγ, rfl⟩⟩
      rw [EReal.coe_eq_coe_iff.mp e, sub_self, Real.exp_zero]
  choose e he1 he2 he3 he4 he5 using he
  obtain ⟨k0, hk0⟩ := exists_top hn g
  have ht : total g = ((∑ k, e k : ℝ) : EReal) := by
    unfold total
    rw [coe_sum]
    exact Finset.sum_congr rfl fun k _ => he1 k
  obtain ⟨hs1, -⟩ := sum_bounds e he2 he3 k0 (he4 k0 hk0)
  have hl : Ideal.log (total g) = ((Real.log (∑ k, e k) : ℝ) : EReal) := by
    rw [ht]
    show (if (∑ k, e k) ≤ 0 then (⊥ : EReal) else _) = _
    rw [if_neg (by linarith)]
  have hl0 : 0 ≤ Real.log (∑ k, e k) := Real.log_nonneg hs1
  have hv : ∀ k, ∃ v : ℝ, kval g k = (v : EReal) ∧ Real.exp v = max (Real.exp (-70)) (e k / ∑ k, e k) := by
    intro k
    unfold kval
    rw [hl, h, ← EReal.coe_add]
    rcases he5 k with ⟨hg, e0⟩ | ⟨γ, hg, hγ, eγ⟩
    · refine ⟨-70, ?_, ?_⟩
      · rw [hg, EReal.bot_sub]; exact clip_bot
      · rw [e0, zero_div, max_eq_left (Real.exp_pos _).le]
    · refine ⟨max (-70) (γ - (μ + Real.log (∑ k, e k))), ?_, ?_⟩
      · rw [hg, ← EReal.coe_sub, min_eq_right]
        · exact (Monotone.map_max EReal.coe_strictMono.monotone).symm
        · rw [max_le_iff]
          exact ⟨EReal.coe_nonpos.mpr (by norm_num), EReal.coe_nonpos.mpr (by linarith)⟩
      · rw [Monotone.map_max Real.exp_monotone, eγ, show γ - (μ + Real.log (∑ k, e k)) = (γ - μ) - Real.log (∑ k, e k) by ring,
          Real.exp_sub (γ - μ), Real.exp_log (by linarith)]
  choose v hv1 hv2 using hv
  exact ⟨e, v, k0, he1, he2, he3, he4 k0 hk0, ht, hv1, fun k => (hkr k).trans (hv1 k), hv2⟩

/-- What the reference leaves at an entry: its log-probability where it is kept, the floor elsewhere. -/
def rout (g : Fin n → EReal) (kept : Fin n → Prop) [DecidablePred kept] (k : Fin n) : EReal := if kept k then rval g k else floor70

/-- The kernel's entries are the reference's, where `kept` is the reference's choice along a sorted order `σ` of its column and
    the least log-probability kept above the floor is at least `2^-23` above the greatest of the others. -/
theorem kout_eq_rout (hn0 : 0 < n) (hn : n ≤ 2887) (g : Fin n → EReal) (σ : Equiv.Perm (Fin n)) (hσ : Antitone (rval g ∘ σ))
    (kept : Fin n → Prop) [DecidablePred kept]
    (hk : ∀ i, kept (σ i) ↔ i.val = 0 ∨ (∑ k, if k < i then Ideal.exp (rval g (σ k)) else 0) < (rate : EReal))
    (sep : ((1 / 2 ^ 23 : ℝ) : EReal) ≤
      (Finset.univ.fold min ⊤ fun k => if floor70 < rout g kept k then rval g k else ⊤)
        - (Finset.univ.fold max ⊥ fun k => if floor70 < rout g kept k then ⊥ else rval g k))
    (k : Fin n) : kout g k = rout g kept k := by
  rcases eq_or_ne (top g) ⊤ with ht | ht
  · rw [kout_of_expo_zero g k (expo_of_top g ht k)]
    unfold rout
    rw [rval_of_top hn0 g ht, ite_self]
  rcases eq_or_ne (top g) ⊥ with hb | hb
  · rw [kout_of_expo_zero g k (expo_of_bot g hb k)]
    unfold rout
    rw [rval_of_bot g hb, ite_self]
  obtain ⟨e, v, k0, he, he0, he1, hk0, htot, hkv, hrv, hp⟩ := finite_column hn0 g (top g).toReal (EReal.coe_toReal ht hb).symm
  obtain ⟨hs1, -⟩ := sum_bounds e he0 he1 k0 hk0
  -- the kernel's test of a word, over the reals
  have hmass : ∀ t : ℝ, kmass g (t : EReal) = ((massR e t : ℝ) : EReal) := by
    intro t
    unfold kmass massR
    rw [coe_sum]
    refine Finset.sum_congr rfl fun k _ => ?_
    rw [select_ogt, he k]
    by_cases hc : t < e k
    · rw [if_pos hc, if_pos (EReal.coe_lt_coe_iff.mpr hc)]
    · rw [if_neg hc, if_neg (fun h => hc (EReal.coe_lt_coe_iff.mp h)), EReal.coe_zero]
  have hbelow : ∀ w : BitVec 32, wLo ≤ w.toNat → w.toNat ≤ wHi →
      (below g w = 1 ↔ massR e (wordVal w.toNat) < rate * ∑ k, e k) := by
    intro w h0 h1
    unfold below
    rw [olt_eq_one, ofBits_word w h0 h1, hmass, htot, ← EReal.coe_mul, EReal.coe_lt_coe_iff]
  have hP0 : below g 931928737#32 ≠ 1 := by
    intro h
    have := (hbelow _ (by decide) (by decide)).mp h
    exact absurd (mass_lo hn e hs1) (not_le.mpr this)
  have hP1 : below g 1065353216#32 = 1 := (hbelow _ (by decide) (by decide)).mpr (mass_hi e he1 hs1)
  obtain ⟨hi, hi1, hi2, hlo, hhi⟩ := search_adjacent (below g) hP0 hP1
  obtain ⟨hr0, hr1⟩ := search_range (below g)
  change hi.toNat = (lastWord g).toNat + 1 at hi1
  change below g (lastWord g) ≠ 1 at hlo
  change 931928737 ≤ (lastWord g).toNat at hr0
  change (lastWord g).toNat ≤ 1065353216 at hr1
  rw [Ne, hbelow _ hr0 hr1, not_lt] at hlo
  rw [hbelow hi (by show 931928737 ≤ _; omega) hi2, hi1] at hhi
  -- the reference's choice, over the reals
  have hq : ∀ i, kept (σ i) ↔ keptAt ((fun k => Real.exp (v k)) ∘ σ) i := by
    intro i
    rw [hk i]
    unfold keptAt
    have : (∑ k, if k < i then Ideal.exp (rval g (σ k)) else 0)
        = ((∑ k, if k < i then ((fun k => Real.exp (v k)) ∘ σ) k else 0 : ℝ) : EReal) := by
      rw [coe_sum]
      refine Finset.sum_congr rfl fun k _ => ?_
      by_cases hc : k < i
      · rw [if_pos hc, if_pos hc, hrv]; rfl
      · rw [if_neg hc, if_neg hc, EReal.coe_zero]
    rw [this, EReal.coe_lt_coe_iff]
  have hanti : Antitone ((fun k => Real.exp (v k)) ∘ σ) := by
    intro i j hij
    have := hσ hij
    show Real.exp (v (σ j)) ≤ Real.exp (v (σ i))
    rw [Real.exp_le_exp, ← EReal.coe_le_coe_iff, ← hrv, ← hrv]
    exact this
  have hrout : ∀ k, rout g kept k = if kept k then (v k : EReal) else floor70 := by
    intro k; unfold rout; rw [hrv]
  have hsep : ∀ i i' : Fin n, keptAt ((fun k => Real.exp (v k)) ∘ σ) i → ¬ keptAt ((fun k => Real.exp (v k)) ∘ σ) i' →
      Real.exp (-70) < (fun k => Real.exp (v k)) (σ i) →
      (fun k => Real.exp (v k)) (σ i') * Real.exp (1 / 2 ^ 23) ≤ (fun k => Real.exp (v k)) (σ i) := by
    intro i i' h1 h2 h3
    rw [← hq] at h1 h2
    have h3' : -70 < v (σ i) := Real.exp_lt_exp.mp h3
    have a : (Finset.univ.fold min ⊤ fun k => if floor70 < rout g kept k then rval g k else ⊤) ≤ (v (σ i) : EReal) := by
      have := Finset.inf_le (f := fun k => if floor70 < rout g kept k then rval g k else ⊤) (Finset.mem_univ (σ i))
      refine le_trans this ?_
      rw [hrout, if_pos h1, if_pos (EReal.coe_lt_coe_iff.mpr h3'), hrv]
    have b : (v (σ i') : EReal) ≤ (Finset.univ.fold max ⊥ fun k => if floor70 < rout g kept k then ⊥ else rval g k) := by
      have := Finset.le_sup (f := fun k => if floor70 < rout g kept k then ⊥ else rval g k) (Finset.mem_univ (σ i'))
      refine le_trans ?_ this
      rw [hrout, if_neg h2, if_neg (lt_irrefl _), hrv]
    have c := sep.trans (EReal.sub_le_sub a b)
    rw [← EReal.coe_sub, EReal.coe_le_coe_iff] at c
    show Real.exp (v (σ i')) * Real.exp (1 / 2 ^ 23) ≤ Real.exp (v (σ i))
    rw [← Real.exp_add, Real.exp_le_exp]
    linarith
  have main := threshold_iff_kept hn e he0 he1 k0 hk0 (lastWord g).toNat hr0 hlo hhi (fun k => Real.exp (v k)) hp σ hanti hsep
  obtain ⟨i, rfl⟩ := σ.surjective k
  unfold kout
  rw [select_ogt, lastWord_val, he, hkv, hrout]
  by_cases hc : kept (σ i)
  · rw [if_pos hc, if_pos (EReal.coe_lt_coe_iff.mpr ((main i).mpr ((hq i).mp hc)))]
  · rw [if_neg hc, if_neg]
    intro h
    exact hc ((hq i).mpr ((main i).mp (EReal.coe_lt_coe_iff.mp h)))

end Cert.Column
-- ==== Proof.Column.Chunks.lean ====
/-
  The kernel's sum of a column: the column in chunks of 64 entries added chunk to chunk, the chunk's 64 sums added, and the
  last seven entries added to that. It is the column's sum.
-/
module

public import Mathlib.Algebra.BigOperators.Fin
public import Mathlib.Algebra.BigOperators.Intervals

@[expose] public section

namespace Cert.Column

variable {M : Type*} [AddCommMonoid M]

/-- A sum over `64 * n` numbers in `n` chunks of 64, the chunks added first. -/
theorem sum_chunks (F : ℕ → M) (n : ℕ) :
    ∑ i ∈ Finset.range (64 * n), F i = ∑ x ∈ Finset.range 64, ∑ c ∈ Finset.range n, F (64 * c + x) := by
  induction n with
  | zero => simp
  | succ n ih =>
    rw [Nat.mul_succ, Finset.sum_range_add, ih, ← Finset.sum_add_distrib]
    exact Finset.sum_congr rfl fun x _ => (Finset.sum_range_succ _ n).symm

/-- The kernel's order of a column's sum gives the column's sum. -/
theorem chunks (f : Fin 2887 → M) :
    (∑ x : Fin 64, (f ⟨↑x, by omega⟩ + f ⟨64 + ↑x, by omega⟩ + f ⟨128 + ↑x, by omega⟩ + f ⟨192 + ↑x, by omega⟩ + f ⟨256 + ↑x, by omega⟩
        + f ⟨320 + ↑x, by omega⟩ + f ⟨384 + ↑x, by omega⟩ + f ⟨448 + ↑x, by omega⟩ + f ⟨512 + ↑x, by omega⟩ + f ⟨576 + ↑x, by omega⟩
        + f ⟨640 + ↑x, by omega⟩ + f ⟨704 + ↑x, by omega⟩ + f ⟨768 + ↑x, by omega⟩ + f ⟨832 + ↑x, by omega⟩ + f ⟨896 + ↑x, by omega⟩
        + f ⟨960 + ↑x, by omega⟩ + f ⟨1024 + ↑x, by omega⟩ + f ⟨1088 + ↑x, by omega⟩ + f ⟨1152 + ↑x, by omega⟩ + f ⟨1216 + ↑x, by omega⟩
        + f ⟨1280 + ↑x, by omega⟩ + f ⟨1344 + ↑x, by omega⟩ + f ⟨1408 + ↑x, by omega⟩ + f ⟨1472 + ↑x, by omega⟩ + f ⟨1536 + ↑x, by omega⟩
        + f ⟨1600 + ↑x, by omega⟩ + f ⟨1664 + ↑x, by omega⟩ + f ⟨1728 + ↑x, by omega⟩ + f ⟨1792 + ↑x, by omega⟩ + f ⟨1856 + ↑x, by omega⟩
        + f ⟨1920 + ↑x, by omega⟩ + f ⟨1984 + ↑x, by omega⟩ + f ⟨2048 + ↑x, by omega⟩ + f ⟨2112 + ↑x, by omega⟩ + f ⟨2176 + ↑x, by omega⟩
        + f ⟨2240 + ↑x, by omega⟩ + f ⟨2304 + ↑x, by omega⟩ + f ⟨2368 + ↑x, by omega⟩ + f ⟨2432 + ↑x, by omega⟩ + f ⟨2496 + ↑x, by omega⟩
        + f ⟨2560 + ↑x, by omega⟩ + f ⟨2624 + ↑x, by omega⟩ + f ⟨2688 + ↑x, by omega⟩ + f ⟨2752 + ↑x, by omega⟩ + f ⟨2816 + ↑x, by omega⟩))
      + ∑ x : Fin 7, f ⟨2880 + ↑x, by omega⟩ = ∑ k, f k := by
  have hF : ∀ (i : ℕ) (h : i < 2887), f ⟨i, h⟩ = (fun i => if h : i < 2887 then f ⟨i, h⟩ else 0) i :=
    fun i h => by dsimp only; rw [dif_pos h]
  generalize (fun i => if h : i < 2887 then f ⟨i, h⟩ else 0) = F at hF
  have hr : ∑ k, f k = ∑ i ∈ Finset.range (64 * 45 + 7), F i := by
    rw [Finset.sum_range]
    exact Finset.sum_congr rfl fun k _ => hF k.1 k.2
  rw [hr, Finset.sum_range_add, sum_chunks, Finset.sum_range, Finset.sum_range]
  congr 1
  · refine Finset.sum_congr rfl fun x _ => ?_
    simp only [hF, Finset.sum_range_succ, Finset.sum_range_zero, zero_add, Nat.reduceMul]
  · exact Finset.sum_congr rfl fun x _ => hF _ _

end Cert.Column
-- ==== Proof.Ideal.Lanes.lean ====
/-
  The body's values at the ideal instance, one column of the block at a time: the guided column, its greatest entry, its
  exponentials and their sum, one trip of the bisection as one step on the words of each column, and the result block as
  what the column's search leaves.
-/
module

public import proofs.«01_k».proof.Proof.Ideal.Body
public import proofs.«01_k».proof.Proof.Column.Extended
public import proofs.«01_k».proof.Proof.Column.Chunks
public import Idealize.ShloMosaic.Lib.Pointwise

@[expose] public section

set_option maxRecDepth 16384

noncomputable section

namespace Cert.KernelIdeal.Hand

open Cert.KernelIdeal Cert.KernelIdeal.Gen Cert.Column
open Idealize.ShloMosaic

variable (x y : FVec Ideal S1x2887x256 .f32)

/-- The guided column `h` of a block. -/
def col (h : Fin 256) (k : Fin 2887) : EReal :=
  y (ix3 0 k h) + Ideal.ofBits .f32 0x40400000#32 * (x (ix3 0 k h) - y (ix3 0 k h))

theorem pay22_ap (k : Fin 2887) (h : Fin 256) : k0_pay22 (F := Ideal) x y (ix3 0 k h) = col x y h k := by
  pointwise [k0_pay22]
  rfl

theorem pay23_ap (h : Fin 256) : k0_pay23 (F := Ideal) x y (ix3 0 0 h) = top (col x y h) := by
  unfold top
  pointwise [k0_pay23]
  simp only [pay22_ap]
  rw [ofBits_bot]

theorem pay24_ap (k : Fin 2887) (h : Fin 256) : k0_pay24 (F := Ideal) x y (ix3 0 k h) = expo (col x y h) k := by
  pointwise [k0_pay24]
  rw [pay22_ap, pay23_ap]; rfl

theorem sums_ap (h : Fin 256) : sums x y (ix3 0 0 h) = total (col x y h) := by
  unfold sums
  pointwise [k0_pay26, k0_pay25]
  refine (chunks (fun k => k0_pay24 (F := Ideal) x y (ix3 0 k h))).trans ?_
  simp only [pay24_ap]
  rfl

/-- The test of a trip at column `h`: whether the sum of the column's entries above the middle word is below the bound. -/
theorem mass_ap (v : FVec Ideal S1x2887x256 .f32) (s r : FVec Ideal S1x1x256 .f32) (lo hi : IVec S1x1x256 32) (h : Fin 256) :
    k0_pay3 (F := Ideal) v s r (k0_pay8 (F := Ideal) lo hi) (partialAt v lo hi) (ix3 0 0 h)
      = Ideal.cmp .olt (∑ k : Fin 2887, Scalar.select (Ideal.cmp .ogt (v (ix3 0 k h))
          (Ideal.ofBits .f32 (midWord (lo (ix3 0 0 h)) (hi (ix3 0 0 h))))) (v (ix3 0 k h)) 0) (r (ix3 0 0 h) * s (ix3 0 0 h)) := by
  have ht0 : k0_pay8 (F := Ideal) lo hi (ix3 0 0 h) = Ideal.ofBits .f32 (midWord (lo (ix3 0 0 h)) (hi (ix3 0 0 h))) := rfl
  unfold partialAt
  generalize Ideal.ofBits .f32 (midWord (lo (ix3 0 0 h)) (hi (ix3 0 0 h))) = θ at ht0 ⊢
  generalize ht : k0_pay8 (F := Ideal) lo hi = t at ht0 ⊢
  pointwise [k0_pay3, k0_pay21, k0_pay20, k0_pay19, k0_pay18, k0_pay17, k0_pay16, k0_pay15, k0_pay14, k0_pay13, k0_pay12, k0_pay11,
    k0_pay10, k0_pay9]
  simp only [ht, ht0]
  refine congrArg (fun z => BitVec.ofBool (decide (z < r (ix3 0 0 h) * s (ix3 0 0 h)))) ?_
  exact chunks (fun k => if θ < v (ix3 0 k h) then v (ix3 0 k h) else 0)

/-- One trip at column `h` is one step of the column's search. -/
theorem bisect_ap (p : IVec S1x1x256 32 × IVec S1x1x256 32) (h : Fin 256) :
    ((bisect (k0_pay24 x y) (sums x y) k0_pay27 p).1 (ix3 0 0 h), (bisect (k0_pay24 x y) (sums x y) k0_pay27 p).2 (ix3 0 0 h))
      = halve (below (col x y h)) (p.1 (ix3 0 0 h), p.2 (ix3 0 0 h)) := by
  have hm : k0_pay3 (F := Ideal) (k0_pay24 x y) (sums x y) k0_pay27 (k0_pay8 (F := Ideal) p.1 p.2)
      (partialAt (k0_pay24 x y) p.1 p.2) (ix3 0 0 h)
      = below (col x y h) (midWord (p.1 (ix3 0 0 h)) (p.2 (ix3 0 0 h))) := by
    rw [mass_ap]
    simp only [pay24_ap, sums_ap]
    rw [show k0_pay27 (F := Ideal) (ix3 0 0 h) = (rate : EReal) from ofBits_rate]
    rfl
  have h7 : k0_pay7 p.1 p.2 (ix3 0 0 h) = midWord (p.1 (ix3 0 0 h)) (p.2 (ix3 0 0 h)) := rfl
  refine Prod.ext ?_ ?_
  · show Scalar.select (k0_pay3 (F := Ideal) _ _ _ _ _ (ix3 0 0 h)) _ (k0_pay7 _ _ (ix3 0 0 h)) = Scalar.select _ _ _
    rw [hm, h7]
  · show Scalar.select (k0_pay3 (F := Ideal) _ _ _ _ _ (ix3 0 0 h)) (k0_pay7 _ _ (ix3 0 0 h)) _ = Scalar.select _ _ _
    rw [hm, h7]

/-- Folding one and the same step is iterating it. -/
theorem foldl_step {α ι : Type*} (f : α → α) (l : List ι) (a : α) : l.foldl (fun s _ => f s) a = f^[l.length] a := by
  induction l generalizing a with
  | nil => rfl
  | cons i l ih => rw [List.foldl_cons, ih]; rfl

/-- The words the loop ends with, at column `h`. -/
theorem words_ap (h : Fin 256) :
    (words (k0_pay24 x y) (sums x y) k0_pay27).1 (ix3 0 0 h) = lastWord (col x y h) := by
  have hs : ∀ n p, (((bisect (k0_pay24 x y) (sums x y) k0_pay27)^[n] p).1 (ix3 0 0 h),
      ((bisect (k0_pay24 x y) (sums x y) k0_pay27)^[n] p).2 (ix3 0 0 h))
      = (halve (below (col x y h)))^[n] (p.1 (ix3 0 0 h), p.2 (ix3 0 0 h)) := by
    intro n
    induction n with
    | zero => intro p; rfl
    | succ n ih => intro p; rw [Function.iterate_succ_apply, Function.iterate_succ_apply, ih, bisect_ap]
  unfold words
  rw [Scf.fold_eq, foldl_step, List.length_finRange]
  exact congrArg Prod.fst (hs 27 (k0_pay1, k0_pay2))

/-- The result block at `(k, h)` is what the search leaves at entry `k` of column `h`. -/
theorem outBlock_ap (k : Fin 2887) (h : Fin 256) : outBlock x y (ix3 0 k h) = kout (col x y h) k := by
  unfold outBlock kout kval
  generalize hw : words (k0_pay24 x y) (sums x y) k0_pay27 = w
  have hw1 : w.1 (ix3 0 0 h) = lastWord (col x y h) := hw ▸ words_ap x y h
  pointwise [k0_pay6]
  rw [pay22_ap, pay23_ap, pay24_ap, sums_ap, ofBits_floor, hw1]

end Cert.KernelIdeal.Hand
-- ==== Proof.Ideal.Result.lean ====
/-
  The idealized kernel's whole result: at `(b, k, h)` what the search leaves at entry `k` of the guided column `(b, h)`.
-/
module

public import proofs.«01_k».proof.Proof.Ideal.Lanes
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Cert.Column
open Idealize.ShloMosaic Idealize.ShloMosaic.TcCoe Idealize.ShloMosaic.Tactic
open Idealize.SL.Sem

/-- The guided column `(b, h)` of two whole arrays. -/
def guided (x y : S8x2887x1024.Idx → EReal) (b : Fin 8) (h : Fin 1024) (k : Fin 2887) : EReal :=
  y (ix3 b k h) + Ideal.ofBits .f32 0x40400000#32 * (x (ix3 b k h) - y (ix3 b k h))

/-- The kernel's result of two whole arrays. -/
def result (x y : S8x2887x1024.Idx → EReal) : S8x2887x1024.Idx → EReal := fun i => kout (guided x y (i 0) (i 2)) (i 1)

variable (m : (ℓ : Loc nD τ sig) → Buf (Elt Ideal) ℓ) (ρ : Dev nD → PrngReg)

/-- The result array after the run. -/
theorem arr_result (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  have hy : ∀ y : S1x2887x256.Idx, ∃ (k : Fin 2887) (h : Fin 256), y = ix3 0 k h := fun y => by
    idx_vars y
    exact ⟨y1, y2, by rw [Subsingleton.elim y0 0]⟩
  obtain ⟨k, h, rfl⟩ := hy y
  have hi : ∀ t, (win0_0.index t = win0_2.index t ∧ win0_1.index t = win0_2.index t) := by decide +kernel
  have hz : ∀ t, win0_2.index t 1 = 0 := by decide +kernel
  show outBlock (F := Ideal) (iblk m c 0 t) (iblk m c 1 t) (ix3 0 k h) = _
  rw [outBlock_ap]
  unfold result
  have e1 : ((win0_2.blk t).view.emb (ix3 0 k h)) 1 = k := by
    refine Fin.ext ?_
    blk_simp [hz]
  have e0 : col (iblk m c 0 t) (iblk m c 1 t) h = guided (m ((c : Thread nD τ).loc main_arg0)) (m ((c : Thread nD τ).loc main_arg1))
      (((win0_2.blk t).view.emb (ix3 0 k h)) 0) (((win0_2.blk t).view.emb (ix3 0 k h)) 2) := by
    funext k'
    unfold col guided
    have r0 : iblk m c 0 t (ix3 0 k' h) = m ((c : Thread nD τ).loc main_arg0)
        (ix3 (((win0_2.blk t).view.emb (ix3 0 k h)) 0) k' (((win0_2.blk t).view.emb (ix3 0 k h)) 2)) := by
      blk_ext [iblk, V, hi, hz]
    have r1 : iblk m c 1 t (ix3 0 k' h) = m ((c : Thread nD τ).loc main_arg1)
        (ix3 (((win0_2.blk t).view.emb (ix3 0 k h)) 0) k' (((win0_2.blk t).view.emb (ix3 0 k h)) 2)) := by
      blk_ext [iblk, V, hi, hz]
    rw [r0, r1]
  rw [e0]
  exact congrArg _ e1.symm

/-- The run of the idealized kernel: it ends with its result array at `result` of its arguments, which it leaves unchanged. -/
theorem run_result : θ_run defs (onTc (τ := τ) (main (F := Ideal))) ⟨m, fun _ => 0, ρ⟩ (fun r => ∀ c : Dev nD,
    r.2.mem ((c.tc : Thread nD τ).loc main_v0)
        = result (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (arr_result m c),
      ((h.1 c).1 0).trans ((dats m 0 c).arrAt_in 0 rfl _), ((h.1 c).1 1).trans ((dats m 0 c).arrAt_in 1 rfl _)⟩)
    (run_main m ρ)

end Cert.KernelIdeal.Hand
-- ==== Proof.Reference.Reads.lean ====
/-
  What the reference's indexed operations read: its sort along the middle axis, its gather along that axis and its
  running sum along it.
-/
module

public import proofs.«01_k».proof.Proof.Gen.ReferenceIdeal
public import Idealize.ShloMosaic.Lib.SortFacts
public import Idealize.ShloMosaic.Lib.Pointwise

@[expose] public section

set_option maxRecDepth 16384

noncomputable section

namespace Cert.ReferenceIdeal.Hand

open Cert.ReferenceIdeal Cert.ReferenceIdeal.Gen
open Idealize.ShloMosaic

/-- The sort's second result at `(b, k, h)`: the second operand at the position the sort of column `(b, h)` puts at `k`. -/
theorem sort_ap {α β : Type} (cmp : α × β → α × β → BitVec 1) (x : S8x2887x1024.Idx → α) (y : S8x2887x1024.Idx → β)
    (b : Fin 8) (k : Fin 2887) (h : Fin 1024) :
    (Host.sort2 S8x2887x1024 1 cmp x y).2 (ix3 b k h)
      = y (ix3 b (sortedFrom (fun i j : Fin 2887 => cmp (x (ix3 b i h), y (ix3 b i h)) (x (ix3 b j h), y (ix3 b j h)) == 1#1) k) h) := by
  have ha : ∀ (hd : 1 < S8x2887x1024.rank) (i : Fin 2887), Shape.Idx.along (s := S8x2887x1024) (ix3 b k h) ⟨1, hd⟩ i = ix3 b i h := by
    intro hd i
    funext a
    match a with
    | ⟨0, _⟩ => rfl
    | ⟨1, _⟩ => rfl
    | ⟨2, _⟩ => rfl
  unfold Host.sort2
  rw [dif_pos (by decide)]
  refine (congrArg y (ha _ _)).trans ?_
  refine congrArg (fun R => y (ix3 b (sortedFrom R k) h)) (funext fun i => funext fun j => ?_)
  exact congrArg₂ (fun p q => cmp (x p, y p) (x q, y q) == 1#1) (ha _ i) (ha _ j)

/-- The gather at `(b, k, h)`: where the index array holds `p` there, the operand's entry `p` of column `(b, h)`. -/
theorem gather_ap {α : Type} (x : S8x2887x1024.Idx → α) (idx : IVec S8x2887x1024x1 32) (b : Fin 8) (k : Fin 2887) (h : Fin 1024)
    (p : Fin 2887) (hp : idx (ix4 b k h 0) = BitVec.ofNat 32 p.val) :
    Host.gather gather_S8x2887x1024_S8x2887x1024x1_S8x2887x1024_n_1_02_02_1_3_111 x idx (ix3 b k h) = x (ix3 b p h) := by
  unfold Host.gather
  refine congrArg x (funext fun a => Fin.ext ?_)
  match a with
  | ⟨0, _⟩ =>
    show GatherDims.start _ (ix3 b k h) idx ⟨0, by decide⟩ + GatherDims.batchCoord _ (ix3 b k h) ⟨0, by decide⟩ + GatherDims.offCoord _ (ix3 b k h) ⟨0, by decide⟩ = b.val
    rw [GatherDims.start_batching _ _ _ _ (by decide), GatherDims.offCoord_eq_zero _ _ _ (by decide), Nat.zero_add, Nat.add_zero]
    unfold GatherDims.batchCoord
    rw [dif_pos (by decide)]
    rfl
  | ⟨1, _⟩ =>
    have e : GatherDims.siIdx gather_S8x2887x1024_S8x2887x1024x1_S8x2887x1024_n_1_02_02_1_3_111 (ix3 b k h) ⟨0, by decide⟩ = ix4 b k h 0 := by
      funext c
      match c with
      | ⟨0, _⟩ => rfl
      | ⟨1, _⟩ => rfl
      | ⟨2, _⟩ => rfl
      | ⟨3, _⟩ => rfl
    show min (idx (GatherDims.siIdx gather_S8x2887x1024_S8x2887x1024x1_S8x2887x1024_n_1_02_02_1_3_111 (ix3 b k h) ⟨0, _⟩)).toInt.toNat 2886 + 0 + 0 = p.val
    rw [e, hp]
    have := p.isLt
    rw [BitVec.toInt_ofNat']
    simp [Int.bmod]
    omega
  | ⟨2, _⟩ =>
    show GatherDims.start _ (ix3 b k h) idx ⟨2, by decide⟩ + GatherDims.batchCoord _ (ix3 b k h) ⟨2, by decide⟩ + GatherDims.offCoord _ (ix3 b k h) ⟨2, by decide⟩ = h.val
    rw [GatherDims.start_batching _ _ _ _ (by decide), GatherDims.offCoord_eq_zero _ _ _ (by decide), Nat.zero_add, Nat.add_zero]
    unfold GatherDims.batchCoord
    rw [dif_pos (by decide)]
    rfl

/-- A running sum over a window that ends at `k`, padded low. -/
theorem sum_window {M : Type*} [AddCommMonoid M] {P : ℕ} (f : Fin (P + 1) → M) (k : Fin (P + 1)) :
    (∑ w : Fin (P + 1), if P ≤ k.val + w.val then f ⟨k.val + w.val - P, by omega⟩ else 0) = ∑ j, if j ≤ k then f j else 0 := by
  rw [← Finset.sum_filter, ← Finset.sum_filter]
  refine Finset.sum_bij' (fun w _ => ⟨k.val + w.val - P, by omega⟩)
    (fun j hj => ⟨j.val + P - k.val, by have := Fin.le_def.mp (Finset.mem_filter.mp hj).2; omega⟩) ?_ ?_ ?_ ?_ ?_
  · intro w hw
    have := (Finset.mem_filter.mp hw).2
    refine Finset.mem_filter.mpr ⟨Finset.mem_univ _, Fin.le_def.mpr ?_⟩
    show k.val + w.val - P ≤ k.val
    omega
  · intro j hj
    have := Fin.le_def.mp (Finset.mem_filter.mp hj).2
    refine Finset.mem_filter.mpr ⟨Finset.mem_univ _, ?_⟩
    show P ≤ k.val + (j.val + P - k.val)
    omega
  · intro w hw
    have := (Finset.mem_filter.mp hw).2
    refine Fin.ext ?_
    show k.val + w.val - P + P - k.val = w.val
    omega
  · intro j hj
    have := Fin.le_def.mp (Finset.mem_filter.mp hj).2
    refine Fin.ext ?_
    show k.val + (j.val + P - k.val) - P = j.val
    omega
  · intro w hw; rfl

/-- A fold that adds is its start plus the list's sum. -/
theorem foldl_add {ι M : Type*} [AddCommMonoid M] (g : ι → M) (l : List ι) (a : M) :
    l.foldl (fun r i => r + g i) a = a + (l.map g).sum := by
  induction l generalizing a with
  | nil => simp
  | cons i l ih => rw [List.foldl_cons, ih, List.map_cons, List.sum_cons, add_assoc]

/-- The window sum along the middle axis that looks back over the whole axis, from zero: at `(b, k, h)` it is the sum
of column `(b, h)` up to `k`. -/
theorem running_ap {M : Type} [AddCommMonoid M] {A P B : ℕ} (x : (⟨3, ![A, P + 1, B]⟩ : Shape).Idx → M) {u : Shape} (z : u.Idx → M)
    (hz : ∀ i, z i = 0)
    (hw : (⟨3, ![A, P + 1, B]⟩ : Shape).ReduceWindows (![1, P + 1, 1] : Fin 3 → ℕ) ![1, 1, 1] ![0, P, 0] ![0, 0, 0] ⟨3, ![A, P + 1, B]⟩)
    (hu : 0 < u.numel) (b : Fin A) (k : Fin (P + 1)) (h : Fin B) :
    Host.reduceWindow (fun a b : M => a + b) ![1, P + 1, 1] ![1, 1, 1] ![0, P, 0] ![0, 0, 0] x z hw hu (ix3 b k h)
      = ∑ j : Fin (P + 1), if j ≤ k then x (ix3 b j h) else 0 := by
  unfold Host.reduceWindow
  dsimp only
  rw [foldl_add, hz, zero_add, ← List.ofFn_eq_map, List.sum_ofFn]
  have hb := b.isLt
  have hh := h.isLt
  have hk := k.isLt
  let G : (⟨3, ![1, P + 1, 1]⟩ : Shape).Idx → M := fun q =>
    if P ≤ k.val + (q 1).val then x (ix3 b ⟨k.val + (q 1).val - P, by have := (q 1).isLt; change (q 1).val < P + 1 at this; omega⟩ h) else 0
  refine (Finset.sum_congr rfl fun n _ => ?_).trans ((Equiv.sum_comp (Shape.rowMajor (⟨3, ![1, P + 1, 1]⟩ : Shape)).symm G).trans ?_)
  · show _ = G ((Shape.rowMajor (⟨3, ![1, P + 1, 1]⟩ : Shape)).symm n)
    have q0 : ((Shape.rowMajor (⟨3, ![1, P + 1, 1]⟩ : Shape)).symm n 0).val = 0 := by have := ((Shape.rowMajor (⟨3, ![1, P + 1, 1]⟩ : Shape)).symm n 0).isLt; change ((Shape.rowMajor (⟨3, ![1, P + 1, 1]⟩ : Shape)).symm n 0).val < 1 at this; omega
    have q1 : ((Shape.rowMajor (⟨3, ![1, P + 1, 1]⟩ : Shape)).symm n 1).val < P + 1 := ((Shape.rowMajor (⟨3, ![1, P + 1, 1]⟩ : Shape)).symm n 1).isLt
    have q2 : ((Shape.rowMajor (⟨3, ![1, P + 1, 1]⟩ : Shape)).symm n 2).val = 0 := by have := ((Shape.rowMajor (⟨3, ![1, P + 1, 1]⟩ : Shape)).symm n 2).isLt; change ((Shape.rowMajor (⟨3, ![1, P + 1, 1]⟩ : Shape)).symm n 2).val < 1 at this; omega
    show _ = if P ≤ k.val + ((Shape.rowMajor (⟨3, ![1, P + 1, 1]⟩ : Shape)).symm n 1).val then _ else _
    by_cases hle : P ≤ k.val + ((Shape.rowMajor (⟨3, ![1, P + 1, 1]⟩ : Shape)).symm n 1).val
    · rw [if_pos hle, dif_pos]
      · refine congrArg x (funext fun a => Fin.ext ?_)
        match a with
        | ⟨0, _⟩ => show b.val * 1 + ((Shape.rowMajor (⟨3, ![1, P + 1, 1]⟩ : Shape)).symm n 0).val - 0 = b.val; omega
        | ⟨1, _⟩ => show k.val * 1 + ((Shape.rowMajor (⟨3, ![1, P + 1, 1]⟩ : Shape)).symm n 1).val - P = k.val + ((Shape.rowMajor (⟨3, ![1, P + 1, 1]⟩ : Shape)).symm n 1).val - P; omega
        | ⟨2, _⟩ => show h.val * 1 + ((Shape.rowMajor (⟨3, ![1, P + 1, 1]⟩ : Shape)).symm n 2).val - 0 = h.val; omega
      · intro a
        match a with
        | ⟨0, _⟩ => show 0 ≤ b.val * 1 + ((Shape.rowMajor (⟨3, ![1, P + 1, 1]⟩ : Shape)).symm n 0).val ∧ b.val * 1 + ((Shape.rowMajor (⟨3, ![1, P + 1, 1]⟩ : Shape)).symm n 0).val - 0 < A; omega
        | ⟨1, _⟩ => show P ≤ k.val * 1 + ((Shape.rowMajor (⟨3, ![1, P + 1, 1]⟩ : Shape)).symm n 1).val ∧ k.val * 1 + ((Shape.rowMajor (⟨3, ![1, P + 1, 1]⟩ : Shape)).symm n 1).val - P < P + 1; omega
        | ⟨2, _⟩ => show 0 ≤ h.val * 1 + ((Shape.rowMajor (⟨3, ![1, P + 1, 1]⟩ : Shape)).symm n 2).val ∧ h.val * 1 + ((Shape.rowMajor (⟨3, ![1, P + 1, 1]⟩ : Shape)).symm n 2).val - 0 < B; omega
    · rw [if_neg hle, dif_neg]
      intro hin
      have h1 : P ≤ k.val * 1 + ((Shape.rowMajor (⟨3, ![1, P + 1, 1]⟩ : Shape)).symm n 1).val := (hin 1).1
      omega
  · rw [sum_idx3, Fin.sum_univ_one, ← sum_window]
    refine Finset.sum_congr rfl fun w _ => ?_
    rw [Fin.sum_univ_one]
    rfl

/-- The same with the axis's extent under a name of its own. -/
theorem running_ap' {M : Type} [AddCommMonoid M] {A N P B : ℕ} (hN : P + 1 = N) (x : (⟨3, ![A, N, B]⟩ : Shape).Idx → M) {u : Shape}
    (z : u.Idx → M) (hz : ∀ i, z i = 0)
    (hw : (⟨3, ![A, N, B]⟩ : Shape).ReduceWindows (![1, N, 1] : Fin 3 → ℕ) ![1, 1, 1] ![0, P, 0] ![0, 0, 0] ⟨3, ![A, N, B]⟩)
    (hu : 0 < u.numel) (b : Fin A) (k : Fin N) (h : Fin B) :
    Host.reduceWindow (fun a b : M => a + b) ![1, N, 1] ![1, 1, 1] ![0, P, 0] ![0, 0, 0] x z hw hu (ix3 b k h)
      = ∑ j : Fin N, if j ≤ k then x (ix3 b j h) else 0 := by
  subst hN
  exact running_ap x z hz hw hu b k h

/-- The reference's running sum at `(b, k, h)`: the entries of column `(b, h)` up to `k`. -/
theorem cumsum_ap (x : FVec Ideal S8x2887x1024 .f32) (z : FVec Ideal S_ .f32) (hz : ∀ i, z i = (0 : EReal))
    (hw : S8x2887x1024.ReduceWindows (![1, 2887, 1] : Fin 3 → ℕ) ![1, 1, 1] ![0, 2886, 0] ![0, 0, 0] S8x2887x1024) (hu : 0 < S_.numel)
    (b : Fin 8) (k : Fin 2887) (h : Fin 1024) :
    Host.reduceWindowAdd (F := Ideal) (t := S8x2887x1024) ![1, 2887, 1] ![1, 1, 1] ![0, 2886, 0] ![0, 0, 0] x z hw hu (ix3 b k h)
      = ∑ j : Fin 2887, if j ≤ k then (x (ix3 b j h) : EReal) else 0 := by
  have e : Host.reduceWindowAdd (F := Ideal) (t := S8x2887x1024) ![1, 2887, 1] ![1, 1, 1] ![0, 2886, 0] ![0, 0, 0] x z hw hu
      = Host.reduceWindow (fun a b : EReal => a + b) ![1, 2887, 1] ![1, 1, 1] ![0, 2886, 0] ![0, 0, 0] x
          (fun _ : (⟨0, ![]⟩ : Shape).Idx => z (Shape.Idx.first hu)) hw (by decide) := by
    unfold Host.reduceWindowAdd
    rw [Ideal.hostReduceWindowAdd_def]
    rfl
  refine (congrFun e _).trans ?_
  have hP : 2886 + 1 = 2887 := rfl
  have := running_ap' (M := EReal) (A := 8) (B := 1024) hP x (fun _ : (⟨0, ![]⟩ : Shape).Idx => z (Shape.Idx.first hu)) (fun _ => hz _) hw (by decide) b k h
  exact this

end Cert.ReferenceIdeal.Hand
-- ==== Proof.Reference.Order.lean ====
/-
  The reference's two sorts at one column: the first lists the entries with the greatest value first, the second is the
  inverse of that listing.
-/
module

public import proofs.«01_k».proof.Proof.Reference.Reads
public import proofs.«01_k».proof.Proof.Column.Extended
public import Mathlib.Order.Fin.Basic

@[expose] public section

set_option maxRecDepth 16384

noncomputable section

namespace Cert.ReferenceIdeal.Hand

open Cert.ReferenceIdeal Cert.ReferenceIdeal.Gen Cert.Column
open Idealize.ShloMosaic

/-- A value the comparator has made canonical is the value itself. -/
theorem canon (x c : EReal) :
    Scalar.select (Ideal.cmp .une x x) c (Scalar.select (Ideal.cmp .oeq x (Ideal.ofBits .f32 0x00000000#32)) (Ideal.ofBits .f32 0x00000000#32) x) = x := by
  have h1 : Ideal.cmp .une x x = BitVec.ofBool (decide (x ≠ x)) := rfl
  have h2 : ∀ y : EReal, Ideal.cmp .oeq x y = BitVec.ofBool (decide (x = y)) := fun _ => rfl
  rw [h1, h2, select_ofBool, select_ofBool, if_neg (by simp)]
  split
  · next h => exact h.symm
  · rfl

/-- The comparator of the first sort orders by the float values. -/
theorem comparator_ap (l r : EReal × BitVec 32) :
    comparator_f32_i32_d1 (F := Ideal) l r = BitVec.ofBool (decide (l.1 < r.1)) := by
  show Ideal.cmp .olt
    (Scalar.select (Ideal.cmp .une l.1 l.1) _ (Scalar.select (Ideal.cmp .oeq l.1 (Ideal.ofBits .f32 0x00000000#32)) (Ideal.ofBits .f32 0x00000000#32) l.1))
    (Scalar.select (Ideal.cmp .une r.1 r.1) _ (Scalar.select (Ideal.cmp .oeq r.1 (Ideal.ofBits .f32 0x00000000#32)) (Ideal.ofBits .f32 0x00000000#32) r.1)) = _
  rw [canon, canon]
  rfl

variable {n : ℕ}

/-- A sort by a strict order on the values of the entries leaves no pair out of order. -/
theorem sorted_le {α : Type} [LinearOrder α] (f : Fin n → α) (i j : Fin n) (hij : i < j) :
    f (sortedFrom (fun a b => decide (f a < f b)) i) ≤ f (sortedFrom (fun a b => decide (f a < f b)) j) := by
  have h := sortedFrom_noInversion (fun a b => decide (f a < f b)) (fun a b => decide (f a < f b))
    (fun a b h => decide_eq_false (not_lt.mpr (of_decide_eq_true h).le))
    (fun a b h => h)
    (fun a b c h1 h2 => decide_eq_false (not_lt.mpr ((not_lt.mp (of_decide_eq_false h2)).trans (not_lt.mp (of_decide_eq_false h1)))))
    i j hij
  exact not_lt.mp (of_decide_eq_false h)

/-- The listing of a column, greatest value first. -/
def listing (v : Fin n → EReal) : Equiv.Perm (Fin n) :=
  Equiv.ofBijective (sortedFrom fun i j => decide (-v i < -v j)) ⟨sortedFrom_injective _, sortedFrom_surjective _⟩

theorem listing_apply (v : Fin n → EReal) (k : Fin n) : listing v k = sortedFrom (fun i j => decide (-v i < -v j)) k :=
  Equiv.ofBijective_apply _ _ _

/-- Along the listing the values decrease. -/
theorem listing_antitone (v : Fin n → EReal) : Antitone (v ∘ listing v) := by
  intro i j hij
  rcases hij.eq_or_lt with rfl | hlt
  · exact le_rfl
  · rw [Function.comp_apply, Function.comp_apply, listing_apply, listing_apply]
    exact EReal.neg_le_neg_iff.mp (sorted_le (fun i => -v i) i j hlt)

/-- A listing by the places of a listing is its inverse. -/
theorem sorted_places (σ : Equiv.Perm (Fin n)) (k : Fin n) : sortedFrom (fun i j => decide (σ i < σ j)) k = σ.symm k := by
  have hm : StrictMono fun k => σ (sortedFrom (fun i j => decide (σ i < σ j)) k) := fun i j hlt =>
    lt_of_le_of_ne (sorted_le (fun i => σ i) i j hlt) fun he => hlt.ne (sortedFrom_injective _ (σ.injective he))
  have hr : Set.range (fun k => σ (sortedFrom (fun i j => decide (σ i < σ j)) k)) = Set.range (id : Fin n → Fin n) := by
    rw [Set.range_id]
    exact Set.eq_univ_of_forall fun k => by
      obtain ⟨i, hi⟩ := sortedFrom_surjective (fun i j => decide (σ i < σ j)) (σ.symm k)
      exact ⟨i, by show σ (sortedFrom _ i) = k; rw [hi, σ.apply_symm_apply]⟩
  have := congrFun ((StrictMono.range_inj hm strictMono_id).mp hr) k
  exact (σ.eq_symm_apply).mpr this

/-- Comparing two positions as words is comparing them. -/
theorem slt_word (i j : Fin 2887) : IntOp.cmpi .slt (BitVec.ofNat 32 i.val) (BitVec.ofNat 32 j.val) = BitVec.ofBool (decide (i < j)) := by
  have hi := i.isLt
  have hj := j.isLt
  have e : ∀ n : ℕ, n < 2887 → (BitVec.ofNat 32 n).toInt = n := fun n hn => by
    rw [BitVec.toInt_ofNat']
    simp [Int.bmod]
    omega
  show BitVec.ofBool (BitVec.slt _ _) = _
  congr 1
  rw [BitVec.slt_eq_decide, e _ hi, e _ hj]
  exact decide_eq_decide.mpr (by rw [Fin.lt_def]; exact Int.ofNat_lt)

end Cert.ReferenceIdeal.Hand
-- ==== Proof.Reference.Value.lean ====
/-
  The idealized reference's terms read at one entry: the guided column, its log-probabilities, the listing and the kept
  entries.
-/
module

public import proofs.«01_k».proof.Proof.Reference.Order
public import proofs.«01_k».proof.Proof.Gen.ReferenceIdeal.Run
public import proofs.«01_k».proof.Proof.Ideal.Result
public import Idealize.ShloMosaic.Lib.Tactic.CleanTypes

@[expose] public section

set_option maxRecDepth 16384

noncomputable section

namespace Cert.ReferenceIdeal.Hand

open Cert.ReferenceIdeal Cert.ReferenceIdeal.Gen Cert.ReferenceIdeal.Value Cert.Column
open Idealize.ShloMosaic
open Cert.KernelIdeal.Hand (guided)

variable (V0 : Valuation τ sig (Elt Ideal))

/-- The guided column `(b, h)` of the arguments. -/
def gcol (b : Fin 8) (h : Fin 1024) : Fin 2887 → EReal :=
  guided (V0 (Proc.devRef .tc main_arg0)) (V0 (Proc.devRef .tc main_arg1)) b h

theorem v3_ap (b : Fin 8) (k : Fin 2887) (h : Fin 1024) : res_main_v3 V0 (ix3 b k h) = gcol V0 b h k := by
  unfold res_main_v3 gcol guided
  clean_types
  pointwise []

theorem v5_ap (b : Fin 8) (h : Fin 1024) : res_main_v5 V0 (ix3 b 0 h) = top (gcol V0 b h) := by
  unfold res_main_v5 top
  clean_types
  pointwise [v3_ap]
  rw [ofBits_bot]

/-- The shift of an array: its entry where that is finite, zero where it is not. -/
theorem shift_ap (z : FVec Ideal S8x1x1024 .f32) (i : S8x1x1024.Idx) :
    select (cmpf .olt (Host.absf z) (broadcastInDim S8x1x1024 ![] bcast_S_S8x1x1024 (constant (F := Ideal) S_ .f32 0x7F800000#32))) z
      (broadcastInDim S8x1x1024 ![] bcast_S_S8x1x1024 (id (constant (F := Ideal) S_ .f32 0x00000000#32))) i
      = Scalar.select (Ideal.cmp .olt (max (z i : EReal) (-(z i : EReal))) ⊤) (z i : EReal) 0 := by
  rw [← ofBits_top, ← ofBits_zero]
  rfl

theorem v9_ap (b : Fin 8) (h : Fin 1024) : res_main_v9 V0 (ix3 b 0 h) = rshift (gcol V0 b h) := by
  unfold res_main_v9 rshift
  clean_types
  refine (shift_ap (res_main_v5 V0) (ix3 b 0 h)).trans ?_
  rw [v5_ap]

theorem v19_ap (b : Fin 8) (k : Fin 2887) (h : Fin 1024) : res_main_v19 V0 (ix3 b k h) = rval (gcol V0 b h) k := by
  unfold res_main_v19 rval
  clean_types
  pointwise [v3_ap, v9_ap, id_eq]
  rw [ofBits_floor]

theorem v20_ap (b : Fin 8) (k : Fin 2887) (h : Fin 1024) : res_main_v20 V0 (ix3 b k h) = -rval (gcol V0 b h) k := by
  unfold res_main_v20
  clean_types
  pointwise [v19_ap]

/-- The listing of column `(b, h)` by its log-probabilities. -/
def lst (b : Fin 8) (h : Fin 1024) : Equiv.Perm (Fin 2887) := listing (rval (gcol V0 b h))

theorem v21_ap (b : Fin 8) (k : Fin 2887) (h : Fin 1024) : res_main_v21 V0 (ix3 b k h) = BitVec.ofNat 32 (lst V0 b h k).val := by
  unfold res_main_v21
  clean_types
  refine (sort_ap _ _ _ b k h).trans ?_
  have e : (fun i j : Fin 2887 => comparator_f32_i32_d1 (F := Ideal) (res_main_v20 V0 (ix3 b i h), res_main_call2_v0 V0 (ix3 b i h))
      (res_main_v20 V0 (ix3 b j h), res_main_call2_v0 V0 (ix3 b j h)) == 1#1)
      = fun i j => decide (-rval (gcol V0 b h) i < -rval (gcol V0 b h) j) := by
    funext i j
    rw [comparator_ap, v20_ap, v20_ap]
    by_cases hlt : -rval (gcol V0 b h) i < -rval (gcol V0 b h) j
    · rw [decide_eq_true hlt]; rfl
    · rw [decide_eq_false hlt]; rfl
  rw [e]
  unfold lst
  rw [listing_apply]
  unfold res_main_call2_v0
  clean_types
  pointwise []

theorem v31_ap (b : Fin 8) (k : Fin 2887) (h : Fin 1024) : res_main_v31 V0 (ix3 b k h) = BitVec.ofNat 32 ((lst V0 b h).symm k).val := by
  unfold res_main_v31
  clean_types
  refine (sort_ap _ _ _ b k h).trans ?_
  have e : (fun i j : Fin 2887 => comparator_i32_i32_d1 (res_main_v21 V0 (ix3 b i h), res_main_call5_v0 V0 (ix3 b i h))
      (res_main_v21 V0 (ix3 b j h), res_main_call5_v0 V0 (ix3 b j h)) == 1#1)
      = fun i j => decide (lst V0 b h i < lst V0 b h j) := by
    funext i j
    show (IntOp.cmpi .slt (res_main_v21 V0 (ix3 b i h)) (res_main_v21 V0 (ix3 b j h)) == 1#1) = _
    rw [v21_ap, v21_ap, slt_word]
    by_cases hlt : lst V0 b h i < lst V0 b h j
    · rw [decide_eq_true hlt]; rfl
    · rw [decide_eq_false hlt]; rfl
  rw [e, sorted_places]
  unfold res_main_call5_v0
  clean_types
  pointwise []

/-- A position word is kept by the wrap of negative positions. -/
theorem wrap_word (p : Fin 2887) (q : BitVec 32) :
    Scalar.select (IntOp.cmpi .slt (BitVec.ofNat 32 p.val) 0#32) q (BitVec.ofNat 32 p.val) = BitVec.ofNat 32 p.val := by
  have := slt_word p 0
  rw [show ((0 : Fin 2887).val) = 0 from rfl] at this
  rw [this, select_ofBool, if_neg (by simp)]

theorem call3_ap (b : Fin 8) (k : Fin 2887) (h : Fin 1024) : res_main_call3_v5 V0 (ix4 b k h 0) = BitVec.ofNat 32 (lst V0 b h k).val := by
  unfold res_main_call3_v5
  clean_types
  pointwise [v21_ap]
  exact wrap_word _ _

theorem call6_ap (b : Fin 8) (k : Fin 2887) (h : Fin 1024) :
    res_main_call6_v5 V0 (ix4 b k h 0) = BitVec.ofNat 32 ((lst V0 b h).symm k).val := by
  unfold res_main_call6_v5
  clean_types
  pointwise [v31_ap]
  exact wrap_word _ _

theorem word_toInt (p : Fin 2887) : (BitVec.ofNat 32 p.val).toInt = p.val := by
  have hp := p.isLt
  rw [BitVec.toInt_ofNat']
  simp [Int.bmod]
  omega

theorem word_ge (p : Fin 2887) : IntOp.cmpi .sge (BitVec.ofNat 32 p.val) 0#32 = 1#1 := by
  show BitVec.ofBool (BitVec.sle _ _) = _
  rw [BitVec.sle_eq_decide, word_toInt, decide_eq_true (by simp)]
  rfl

theorem word_le (p : Fin 2887) : IntOp.cmpi .sle (BitVec.ofNat 32 p.val) 2886#32 = 1#1 := by
  have hp := p.isLt
  have e : (2886#32).toInt = 2886 := by decide
  show BitVec.ofBool (BitVec.sle _ _) = _
  rw [BitVec.sle_eq_decide, word_toInt, e, decide_eq_true (by omega)]
  rfl

/-- A position word passes the test of its bounds. -/
theorem inside_ap (w : IVec S8x2887x1024x1 32) (b : Fin 8) (k : Fin 2887) (h : Fin 1024) (p : Fin 2887)
    (hp : w (ix4 b k h 0) = BitVec.ofNat 32 p.val) :
    Host.reduce IntOp.andi (andi (cmpi .sge w (broadcastInDim S8x2887x1024x1 ![] bcast_S_S8x2887x1024x1 (constantI S_ 32 0#32))) (cmpi .sle w (broadcastInDim S8x2887x1024x1 ![0, 1, 2, 3] bcast_S1x1x1x1_S8x2887x1024x1_0_1_2_3 (broadcastInDim S1x1x1x1 ![3] bcast_S1_S1x1x1x1_3 (constantI S1 32 2886#32))))) (constantI S_ 1 1#1) reducesTo_S8x2887x1024x1_S8x2887x1024_d3 h_S_ (ix3 b k h) = 1#1 := by
  pointwise []
  rw [Finset.univ_unique, Finset.fold_singleton, Fin.default_eq_zero, hp, word_ge, word_le]
  rfl

/-- The exponential of a choice whose test holds. -/
theorem exp_select_ap (c : IVec S8x2887x1024 1) (u v : FVec Ideal S8x2887x1024 .f32) (i : S8x2887x1024.Idx) (hc : c i = 1#1) :
    (Host.exp (select c u v) i : EReal) = Ideal.exp (u i) := by
  show Ideal.exp (Scalar.select (c i) (u i) (v i)) = _
  rw [hc]
  rfl

/-- The number of a choice between bits whose test holds. -/
theorem uitofp_select_ap (c u v : IVec S8x2887x1024 1) (i : S8x2887x1024.Idx) (hc : c i = 1#1) :
    (uitofp (F := Ideal) .f32 (select c u v) i : EReal) = (((u i).toNat : ℝ) : EReal) := by
  show (((Scalar.select (c i) (u i) (v i)).toNat : ℝ) : EReal) = _
  rw [hc]
  rfl

/-- The running sum of the exponentials along the listing, below the rate or not. -/
theorem v26_ap (b : Fin 8) (k : Fin 2887) (h : Fin 1024) :
    res_main_v26 V0 (ix3 b k h)
      = Ideal.cmp .olt (∑ j, if j ≤ k then Ideal.exp (rval (gcol V0 b h) (lst V0 b h j)) else 0) (rate : EReal) := by
  unfold res_main_v26
  clean_types
  pointwise []
  have hz : ∀ i, (broadcastInDim S_ ![] bcast_S_S_ (constant (F := Ideal) S_ .f32 0x00000000#32) i : EReal) = 0 := fun _ => ofBits_zero
  rw [cumsum_ap _ _ hz, ofBits_rate]
  have e : ∀ j, (Host.exp (F := Ideal) (φ := .f32) (s := S8x2887x1024) (select (Host.reduce IntOp.andi (andi (cmpi .sge (res_main_call3_v5 V0) (broadcastInDim S8x2887x1024x1 ![] bcast_S_S8x2887x1024x1 (constantI S_ 32 0#32))) (cmpi .sle (res_main_call3_v5 V0) (broadcastInDim S8x2887x1024x1 ![0, 1, 2, 3] bcast_S1x1x1x1_S8x2887x1024x1_0_1_2_3 (broadcastInDim S1x1x1x1 ![3] bcast_S1_S1x1x1x1_3 (constantI S1 32 2886#32))))) (constantI S_ 1 1#1) reducesTo_S8x2887x1024x1_S8x2887x1024_d3 h_S_) (Host.gather gather_S8x2887x1024_S8x2887x1024x1_S8x2887x1024_n_1_02_02_1_3_111 (res_main_v19 V0) (res_main_call3_v5 V0)) (broadcastInDim S8x2887x1024 ![] bcast_S_S8x2887x1024 (constant S_ .f32 0x7FC00000#32)))) (ix3 b j h)
      = Ideal.exp (rval (gcol V0 b h) (lst V0 b h j)) := fun j => by
    refine (exp_select_ap _ _ _ _ (inside_ap _ b j h _ (call3_ap V0 b j h))).trans ?_
    rw [gather_ap _ _ b j h _ (call3_ap V0 b j h), v19_ap]
  rw [Finset.sum_congr rfl fun j _ => by rw [e j]]

/-- The reference's row of the listing's kept entries. -/
def keptRow : IVec S8x2887x1024 1 :=
  extractStridedSlice S8x2887x1024 ![0, 0, 0] (concatenate S8x2888x1024 1 [⟨S8x1x1024, (broadcastInDim S8x1x1024 ![] bcast_S_S8x1x1024 (constantI S_ 1 1#1))⟩, ⟨S8x2887x1024, (res_main_v26 V0)⟩] concatenates_S8x1x1024_S8x2887x1024_S8x2888x1024_d1) slices_S8x2888x1024_S8x2887x1024_0_0_0

theorem keptRow_ap (b : Fin 8) (k : Fin 2887) (h : Fin 1024) :
    keptRow V0 (ix3 b k h) = 1#1 ↔ k.val = 0 ∨ (∑ j, if j < k then Ideal.exp (rval (gcol V0 b h) (lst V0 b h j)) else 0) < (rate : EReal) := by
  unfold keptRow
  pointwise []
  by_cases hk : k.val < 1
  · rw [dif_pos hk]
    exact ⟨fun _ => Or.inl (by omega), fun _ => rfl⟩
  · rw [dif_neg hk, v26_ap]
    have e : ∀ j : Fin 2887, (j ≤ ⟨k.val - 1, by omega⟩) = (j < k) := fun j =>
      propext (by rw [Fin.le_def, Fin.lt_def]; show j.val ≤ k.val - 1 ↔ _; omega)
    rw [Finset.sum_congr rfl fun j _ => if_congr (iff_of_eq (e j)) rfl rfl]
    refine (olt_eq_one _ _).trans ⟨Or.inr, ?_⟩
    rintro (h0 | h1)
    · omega
    · exact h1

theorem v33_ap (b : Fin 8) (k : Fin 2887) (h : Fin 1024) :
    res_main_v33 V0 (ix3 b k h) = (((keptRow V0 (ix3 b ((lst V0 b h).symm k) h)).toNat : ℝ) : EReal) := by
  unfold res_main_v33
  clean_types
  refine (uitofp_select_ap _ _ _ _ (inside_ap _ b k h _ (call6_ap V0 b k h))).trans ?_
  exact congrArg (fun w : BitVec 1 => ((w.toNat : ℝ) : EReal)) (gather_ap (keptRow V0) _ b k h _ (call6_ap V0 b k h))

end Cert.ReferenceIdeal.Hand
-- ==== Proof.Reference.Separated.lean ====
/-
  The precondition read at one column: the least log-probability kept and the greatest one dropped lie a step apart.
-/
module

public import proofs.«01_k».proof.Proof.Reference.Value
public import proofs.«01_k».proof.Pre_separated

@[expose] public section

set_option maxRecDepth 16384

noncomputable section

namespace Cert.Pre_separated.Hand

open Idealize.ShloMosaic

/-- The side conditions the precondition's operations state. -/
instance facts : Cert.Pre_separated.Facts where
  bcast_S_S8x2887x1024 := Cert.ReferenceIdeal.Gen.bcast_S_S8x2887x1024
  reducesTo_S8x2887x1024_S8x1024_d1 := Cert.ReferenceIdeal.Gen.reducesTo_S8x2887x1024_S8x1024_d1
  h_S_ := Cert.ReferenceIdeal.Gen.h_S_
  bcast_S8x1024_S8x1x1024_0_2 := Cert.ReferenceIdeal.Gen.bcast_S8x1024_S8x1x1024_0_2
  bcast_S_S8x1x1024 := Cert.ReferenceIdeal.Gen.bcast_S_S8x1x1024
  bcast_S8x1x1024_S8x2887x1024_0_1_2 := Cert.ReferenceIdeal.Gen.bcast_S8x1x1024_S8x2887x1024_0_1_2
  shapeCasts_S8x2887x1024_S8x2887x1024x1 := Cert.ReferenceIdeal.Gen.shapeCasts_S8x2887x1024_S8x2887x1024x1
  bcast_S_S8x2887x1024x1 := Cert.ReferenceIdeal.Gen.bcast_S_S8x2887x1024x1
  bcast_S1_S1x1x1x1_3 := Cert.ReferenceIdeal.Gen.bcast_S1_S1x1x1x1_3
  bcast_S1x1x1x1_S8x2887x1024x1_0_1_2_3 := Cert.ReferenceIdeal.Gen.bcast_S1x1x1x1_S8x2887x1024x1_0_1_2_3
  reducesTo_S8x2887x1024x1_S8x2887x1024_d3 := Cert.ReferenceIdeal.Gen.reducesTo_S8x2887x1024x1_S8x2887x1024_d3
  bcast_S_S_ := Cert.ReferenceIdeal.Gen.bcast_S_S_
  reduceWindows_S8x2887x1024_S8x2887x1024_w1s1p0_0_w2887s1p2886_0_w1s1p0_0 := Cert.ReferenceIdeal.Gen.reduceWindows_S8x2887x1024_S8x2887x1024_w1s1p0_0_w2887s1p2886_0_w1s1p0_0
  slices_S8x2887x1024_S8x1x1024_0_0_0 := Cert.ReferenceIdeal.Gen.slices_S8x2887x1024_S8x1x1024_0_0_0
  concatenates_S8x1x1024_S8x2887x1024_S8x2888x1024_d1 := Cert.ReferenceIdeal.Gen.concatenates_S8x1x1024_S8x2887x1024_S8x2888x1024_d1
  slices_S8x2888x1024_S8x2887x1024_0_0_0 := Cert.ReferenceIdeal.Gen.slices_S8x2888x1024_S8x2887x1024_0_0_0
  bcast_S_S8x1024 := by decide
  gather_S8x2887x1024_S8x2887x1024x1_S8x2887x1024_n_1_02_02_1_3_111_wf := Cert.ReferenceIdeal.Gen.gather_S8x2887x1024_S8x2887x1024x1_S8x2887x1024_n_1_02_02_1_3_111_wf

end Cert.Pre_separated.Hand

namespace Cert.ReferenceIdeal.Hand

open Cert.ReferenceIdeal Cert.ReferenceIdeal.Gen Cert.ReferenceIdeal.Value Cert.Column
open Idealize.ShloMosaic

variable (V0 : Valuation τ sig (Elt Ideal))

/-- The reference's result term of its arguments. -/
def refOut : FVec Ideal S8x2887x1024 .f32 :=
  addf (mulf (res_main_v33 V0) (res_main_v19 V0)) (mulf (subf (broadcastInDim S8x2887x1024 ![] bcast_S_S8x2887x1024 (constant (F := Ideal) S_ .f32 0x3F800000#32)) (res_main_v33 V0)) (broadcastInDim S8x2887x1024 ![] bcast_S_S8x2887x1024 (constant (F := Ideal) S_ .f32 0xC28C0000#32)))

/-- The precondition recomputes the reference's log-probabilities and its kept entries. -/
theorem fn_eq : Cert.Pre_separated.fn (F := Ideal) (V0 (Proc.devRef .tc main_arg0)) (V0 (Proc.devRef .tc main_arg1))
    = Cert.Pre_separated.fn_part3 (F := Ideal) (res_main_v19 V0) (res_main_v33 V0) (mulf (F := Ideal) (φ := .f32) (s := S8x2887x1024) (res_main_v33 V0) (res_main_v19 V0))
        (constant (F := Ideal) S_ .f32 0x3F800000#32) := by
  rfl

/-- The weight of one entry, as an extended real. -/
def weight (b : Fin 8) (k : Fin 2887) (h : Fin 1024) : EReal := res_main_v33 V0 (ix3 b k h)

/-- The reference's result at one entry, as it weighs the log-probability and the floor. -/
theorem refOut_eq (b : Fin 8) (k : Fin 2887) (h : Fin 1024) :
    refOut V0 (ix3 b k h) = weight V0 b k h * rval (gcol V0 b h) k + (1 - weight V0 b k h) * floor70 := by
  unfold refOut weight
  pointwise [v19_ap]
  rw [ofBits_floor]

/-- A bit's weights choose. -/
theorem weigh (w : BitVec 1) (v c : EReal) :
    (((w.toNat : ℝ) : EReal)) * v + (1 - ((w.toNat : ℝ) : EReal)) * c = if w = 1#1 then v else c := by
  rcases BitVec.eq_zero_or_eq_one w with rfl | rfl
  · rw [if_neg (by decide)]
    simp
  · rw [if_pos rfl]
    have e : (1 : EReal) - 1 = 0 := by
      rw [← EReal.coe_one, ← EReal.coe_sub, sub_self, EReal.coe_zero]
    simp [e]

/-- The reference's result at one entry: the log-probability where the entry is kept, the floor elsewhere. -/
theorem refOut_ap (b : Fin 8) (k : Fin 2887) (h : Fin 1024) :
    refOut V0 (ix3 b k h) = rout (gcol V0 b h) (fun i => keptRow V0 (ix3 b ((lst V0 b h).symm i) h) = 1#1) k := by
  have e : weight V0 b k h = (((keptRow V0 (ix3 b ((lst V0 b h).symm k) h)).toNat : ℝ) : EReal) := v33_ap V0 b k h
  rw [refOut_eq, e, weigh]
  rfl

/-- The least kept entries' array: the log-probabilities kept, the greatest value elsewhere. -/
def keptVals (v y : FVec Ideal S8x2887x1024 .f32) : FVec Ideal S8x2887x1024 .f32 :=
  select (cmpf .ogt y (broadcastInDim S8x2887x1024 ![] bcast_S_S8x2887x1024 (constant (F := Ideal) S_ .f32 0xC28C0000#32))) v
    (broadcastInDim S8x2887x1024 ![] bcast_S_S8x2887x1024 (id (constant (F := Ideal) S_ .f32 0x7F800000#32)))

/-- The dropped entries' array: the log-probabilities dropped, the least value elsewhere. -/
def droppedVals (v y : FVec Ideal S8x2887x1024 .f32) : FVec Ideal S8x2887x1024 .f32 :=
  select (cmpf .ogt y (broadcastInDim S8x2887x1024 ![] bcast_S_S8x2887x1024 (constant (F := Ideal) S_ .f32 0xC28C0000#32)))
    (broadcastInDim S8x2887x1024 ![] bcast_S_S8x2887x1024 (id (constant (F := Ideal) S_ .f32 0xFF800000#32))) v

theorem keptVals_ap (v y : FVec Ideal S8x2887x1024 .f32) (i : S8x2887x1024.Idx) :
    (keptVals v y i : EReal) = if floor70 < (y i : EReal) then (v i : EReal) else ⊤ := by
  unfold floor70
  rw [← ofBits_floor, ← ofBits_top, ← select_ogt]
  rfl

theorem droppedVals_ap (v y : FVec Ideal S8x2887x1024 .f32) (i : S8x2887x1024.Idx) :
    (droppedVals v y i : EReal) = if floor70 < (y i : EReal) then ⊥ else (v i : EReal) := by
  unfold floor70
  rw [← ofBits_floor, ← ofBits_bot, ← select_ogt]
  rfl

/-- The least entry of a column. -/
theorem least_ap (a : FVec Ideal S8x2887x1024 .f32) (b : Fin 8) (h : Fin 1024) :
    Host.reduce (FloatOps.minimumf : Ideal .f32 → Ideal .f32 → Ideal .f32) a (constant (F := Ideal) S_ .f32 0x7F800000#32) reducesTo_S8x2887x1024_S8x1024_d1 h_S_ (ix2 b h)
      = Finset.univ.fold min ⊤ fun k : Fin 2887 => (a (ix3 b k h) : EReal) := by
  pointwise []
  rw [ofBits_top]

/-- The greatest entry of a column. -/
theorem greatest_ap (a : FVec Ideal S8x2887x1024 .f32) (b : Fin 8) (h : Fin 1024) :
    Host.reduce (FloatOps.maximumf : Ideal .f32 → Ideal .f32 → Ideal .f32) a (constant (F := Ideal) S_ .f32 0xFF800000#32) reducesTo_S8x2887x1024_S8x1024_d1 h_S_ (ix2 b h)
      = Finset.univ.fold max ⊥ fun k : Fin 2887 => (a (ix3 b k h) : EReal) := by
  pointwise []
  rw [ofBits_bot]

/-- The precondition's test of the log-probabilities and the result. -/
def sepTest (v y : FVec Ideal S8x2887x1024 .f32) : IVec S8x1024 1 :=
  cmpf (F := Ideal) (φ := .f32) .oge
    (subf (Host.reduce FloatOps.minimumf (keptVals v y) (constant (F := Ideal) S_ .f32 0x7F800000#32) reducesTo_S8x2887x1024_S8x1024_d1 h_S_)
      (Host.reduce FloatOps.maximumf (droppedVals v y) (constant (F := Ideal) S_ .f32 0xFF800000#32) reducesTo_S8x2887x1024_S8x1024_d1 h_S_))
    (broadcastInDim S8x1024 ![] (by decide) (constant (F := Ideal) S_ .f32 0x34000000#32))

/-- The test of one value being at least another. -/
theorem oge_eq_one (x y : EReal) : Ideal.cmp .oge x y = 1 ↔ y ≤ x := ofBool_eq_one (y ≤ x)

theorem gap_ap (p q : FVec Ideal S8x1024 .f32) (i : S8x1024.Idx) :
    cmpf (F := Ideal) (φ := .f32) .oge (subf p q) (broadcastInDim S8x1024 ![] (by decide) (constant (F := Ideal) S_ .f32 0x34000000#32)) i
      = Ideal.cmp .oge ((p i : EReal) - (q i : EReal)) (Ideal.ofBits .f32 0x34000000#32) := rfl

theorem sepTest_eq : Cert.Pre_separated.fn_part3 (F := Ideal) (res_main_v19 V0) (res_main_v33 V0)
    (mulf (F := Ideal) (φ := .f32) (s := S8x2887x1024) (res_main_v33 V0) (res_main_v19 V0)) (constant (F := Ideal) S_ .f32 0x3F800000#32)
    = sepTest (res_main_v19 V0) (refOut V0) := rfl

theorem sepTest_ap (v y : FVec Ideal S8x2887x1024 .f32) (b : Fin 8) (h : Fin 1024) (e : sepTest v y (ix2 b h) = 1#1) :
    ((1 / 2 ^ 23 : ℝ) : EReal)
      ≤ (Finset.univ.fold min ⊤ fun k : Fin 2887 => if floor70 < (y (ix3 b k h) : EReal) then (v (ix3 b k h) : EReal) else ⊤)
        - (Finset.univ.fold max ⊥ fun k : Fin 2887 => if floor70 < (y (ix3 b k h) : EReal) then ⊥ else (v (ix3 b k h) : EReal)) := by
  have hk : (fun k : Fin 2887 => if floor70 < (y (ix3 b k h) : EReal) then (v (ix3 b k h) : EReal) else ⊤) = fun k => (keptVals v y (ix3 b k h) : EReal) :=
    funext fun k => (keptVals_ap v y _).symm
  have hd : (fun k : Fin 2887 => if floor70 < (y (ix3 b k h) : EReal) then ⊥ else (v (ix3 b k h) : EReal)) = fun k => (droppedVals v y (ix3 b k h) : EReal) :=
    funext fun k => (droppedVals_ap v y _).symm
  rw [hk, hd, ← least_ap, ← greatest_ap, ← ofBits_gap]
  exact (oge_eq_one _ _).mp ((gap_ap _ _ _).symm.trans e)

/-- Where the precondition holds, each column's kept and dropped log-probabilities are a step apart. -/
theorem sep_ap (hpre : Cert.Pre_separated.fn (F := Ideal) (V0 (Proc.devRef .tc main_arg0)) (V0 (Proc.devRef .tc main_arg1)) = fun _ => 1#1)
    (b : Fin 8) (h : Fin 1024) :
    ((1 / 2 ^ 23 : ℝ) : EReal)
      ≤ (Finset.univ.fold min ⊤ fun k => if floor70 < refOut V0 (ix3 b k h) then rval (gcol V0 b h) k else ⊤)
        - (Finset.univ.fold max ⊥ fun k => if floor70 < refOut V0 (ix3 b k h) then ⊥ else rval (gcol V0 b h) k) := by
  have s := sepTest_ap (res_main_v19 V0) (refOut V0) b h (congrFun ((sepTest_eq V0).symm.trans ((fn_eq V0).symm.trans hpre)) (ix2 b h))
  have e : ∀ k, (res_main_v19 V0 (ix3 b k h)) = rval (gcol V0 b h) k := fun k => v19_ap V0 b k h
  simp only [e] at s
  exact s

/-- Where the precondition holds, the kernel's search leaves what the reference leaves. -/
theorem refOut_eq_result
    (hpre : Cert.Pre_separated.fn (F := Ideal) (V0 (Proc.devRef .tc main_arg0)) (V0 (Proc.devRef .tc main_arg1)) = fun _ => 1#1) :
    refOut V0 = Cert.KernelIdeal.Hand.result (V0 (Proc.devRef .tc main_arg0)) (V0 (Proc.devRef .tc main_arg1)) := by
  have hi : ∀ i : S8x2887x1024.Idx, ∃ (b : Fin 8) (k : Fin 2887) (h : Fin 1024), i = ix3 b k h := fun i => by
    idx_vars i
    exact ⟨i0, i1, i2, rfl⟩
  funext i
  obtain ⟨b, k, h, rfl⟩ := hi i
  show refOut V0 (ix3 b k h) = kout (gcol V0 b h) k
  rw [refOut_ap]
  refine (kout_eq_rout (by norm_num) le_rfl (gcol V0 b h) (lst V0 b h) (listing_antitone _) _ (fun i => ?_) ?_ k).symm
  · rw [Equiv.symm_apply_apply]
    exact keptRow_ap V0 b i h
  · have s := sep_ap V0 hpre b h
    simp only [refOut_ap] at s
    exact s

end Cert.ReferenceIdeal.Hand
-- ==== Proof.lean ====
/-
  The proof of `Cert.Claim`: the runs and their frames, and that the kernel's result is the reference's wherever the
  precondition holds.
-/
module

public import proofs.«01_k».proof.Proof.Ideal.Frames
public import proofs.«01_k».proof.Proof.Ideal.Result
public import proofs.«01_k».proof.Proof.Reference.Separated

@[expose] public section

noncomputable section

namespace Cert.Proof

open Idealize.ShloMosaic Idealize.ShloMosaic.TcCoe Idealize.SL.Sem
open Cert.ReferenceIdeal.Hand (refOut refOut_eq_result)

/-- Wherever the precondition holds, both programs end with the same result. -/
theorem algebraic : Cert.algebraic_KernelIdeal_ReferenceIdeal_pre_separated := fun m ρ m' ρ' hpre hargs => by
  have key : ∀ c : Dev Cert.ReferenceIdeal.nD, refOut (StableHlo.launchContents m' c)
      = Cert.KernelIdeal.Hand.result (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := fun c => by
    have a0 : StableHlo.launchContents m' c (Proc.devRef .tc Cert.ReferenceIdeal.main_arg0)
        = m ((c.tc : Thread Cert.KernelIdeal.nD Cert.KernelIdeal.τ).loc Cert.KernelIdeal.main_arg0) := (hargs c).1
    have a1 : StableHlo.launchContents m' c (Proc.devRef .tc Cert.ReferenceIdeal.main_arg1)
        = m ((c.tc : Thread Cert.KernelIdeal.nD Cert.KernelIdeal.τ).loc Cert.KernelIdeal.main_arg1) := (hargs c).2
    have hc := hpre c
    rw [← a0, ← a1] at hc
    rw [← a0, ← a1]
    exact refOut_eq_result _ hc
  exact ⟨fun c => Cert.KernelIdeal.Hand.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_result m ρ,
    (θ_run Cert.ReferenceIdeal.defs _ _).mono (fun _ h c => ⟨(h c).1.trans (key c), (h c).2⟩)
      (Cert.ReferenceIdeal.Value.run (F := Ideal) m' ρ')⟩

/-- Everything the certificate claims. -/
theorem claim : Cert.Claim :=
  ⟨Cert.Kernel.Gen.facts, Cert.KernelIdeal.Gen.facts, Cert.ReferenceIdeal.Gen.facts, Cert.Pre_separated.Hand.facts,
    Cert.Frames.kernel, Cert.Frames.kernelIdeal, fun m ρ _ => Cert.Frames.kernelIdeal m ρ trivial,
    Cert.Frames.referenceIdeal, fun m ρ _ => Cert.Frames.referenceIdeal m ρ trivial, Cert.Frames.preserves, algebraic⟩

end Cert.Proof

end
